-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S8x768 : Shape := ⟨2, ![8, 768]⟩
abbrev S8x1536x768 : Shape := ⟨3, ![8, 1536, 768]⟩
abbrev S8x768x1536 : Shape := ⟨3, ![8, 768, 1536]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S1x2048x768 .f32) (main_arg1 : FVec F S8x768 .f32) (main_arg2 : FVec F S8x1536x768 .f32) (main_arg3 : FVec F S8x1536x768 .f32) (main_arg4 : FVec F S8x768x1536 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S1x2048x768 : Shape := ⟨3, ![1, 2048, 768]⟩
abbrev S8x768 : Shape := ⟨2, ![8, 768]⟩
abbrev S8x1536x768 : Shape := ⟨3, ![8, 1536, 768]⟩
abbrev S8x768x1536 : Shape := ⟨3, ![8, 768, 1536]⟩
abbrev S2048x768 : Shape := ⟨2, ![2048, 768]⟩
abbrev S256x768 : Shape := ⟨2, ![256, 768]⟩
abbrev S1x1536x768 : Shape := ⟨3, ![1, 1536, 768]⟩
abbrev S1x768x1536 : Shape := ⟨3, ![1, 768, 1536]⟩
abbrev S256x8 : Shape := ⟨2, ![256, 8]⟩
abbrev S256 : Shape := ⟨1, ![256]⟩
abbrev S256x1 : Shape := ⟨2, ![256, 1]⟩
abbrev S1536x768 : Shape := ⟨2, ![1536, 768]⟩
abbrev S256x1536 : Shape := ⟨2, ![256, 1536]⟩
abbrev S768x1536 : Shape := ⟨2, ![768, 1536]⟩

abbrev nBuf : Space → Nat
  | .hbm => 8
  | .vmem => 12
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8x1536x768, .f32⟩
  | .hbm, ⟨3, _⟩ => ⟨S8x1536x768, .f32⟩
  | .hbm, ⟨4, _⟩ => ⟨S8x768x1536, .f32⟩
  | .hbm, ⟨5, _⟩ => ⟨S2048x768, .f32⟩
  | .hbm, ⟨6, _⟩ => ⟨S2048x768, .f32⟩
  | .hbm, ⟨7, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S1x1536x768, .f32⟩
  | .local _ .vmem, ⟨4, _⟩ => ⟨S1x1536x768, .f32⟩
  | .local _ .vmem, ⟨5, _⟩ => ⟨S1x1536x768, .f32⟩
  | .local _ .vmem, ⟨6, _⟩ => ⟨S1x1536x768, .f32⟩
  | .local _ .vmem, ⟨7, _⟩ => ⟨S1x768x1536, .f32⟩
  | .local _ .vmem, ⟨8, _⟩ => ⟨S1x768x1536, .f32⟩
  | .local _ .vmem, ⟨9, _⟩ => ⟨S256x768, .f32⟩
  | .local _ .vmem, ⟨10, _⟩ => ⟨S256x768, .f32⟩
  | .local _ .vmem, ⟨11, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_26 : BitVec 32 := 0#32
  let v65 : BitVec 1 := Scalar.cmpi .ne v64 c0_i32_26
  v65

def k0_off1 (i : grid0.Coords) : Fin 2 → Nat :=
  let arg1 : BitVec 32 := BitVec.ofNat 32 (i 1).val
  let c256_i32 : BitVec 32 := 256#32
  let v62 : BitVec 32 := Scalar.muli arg1 c256_i32
  let v72 : Index := Scalar.indexCast v62
  let c0_30 : Index := 0#32
  ![v72.toNat, 0]
def k0_cond2 (i : grid0.Coords) : BitVec 1 :=
  let arg0 : BitVec 32 := BitVec.ofNat 32 (i 0).val
  let c0_i32_27 : BitVec 32 := 0#32
  let v66 : BitVec 1 := Scalar.cmpi .sgt arg0 c0_i32_27
  let v67 : BitVec 32 := Scalar.extui v66
  let c0_i32_28 : BitVec 32 := 0#32
  let v68 : BitVec 1 := Scalar.cmpi .ne v67 c0_i32_28
  v68

def k0_off2 (i : grid0.Coords) : Fin 2 → Nat :=
  let arg1 : BitVec 32 := BitVec.ofNat 32 (i 1).val
  let c256_i32 : BitVec 32 := 256#32
  let v62 : BitVec 32 := Scalar.muli arg1 c256_i32
  let v72 : Index := Scalar.indexCast v62
  let c0_30 : Index := 0#32
  ![v72.toNat, 0]
def k0_cond3 (i : grid0.Coords) : BitVec 1 :=
  let arg0 : BitVec 32 := BitVec.ofNat 32 (i 0).val
  let c7_i32 : BitVec 32 := 7#32
  let v69 : BitVec 1 := Scalar.cmpi .eq arg0 c7_i32
  let v70 : BitVec 32 := Scalar.extui v69
  let c0_i32_29 : BitVec 32 := 0#32
  let v71 : BitVec 1 := Scalar.cmpi .ne v70 c0_i32_29
  v71

def k0_off3 (i : grid0.Coords) : Fin 2 → Nat :=
  let arg1 : BitVec 32 := BitVec.ofNat 32 (i 1).val
  let c256_i32 : BitVec 32 := 256#32
  let v62 : BitVec 32 := Scalar.muli arg1 c256_i32
  let v72 : Index := Scalar.indexCast v62
  let c0_30 : Index := 0#32
  ![v72.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1536x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S8x768 : Shape := ⟨2, ![8, 768]⟩
abbrev S8x1536x768 : Shape := ⟨3, ![8, 1536, 768]⟩
abbrev S8x768x1536 : Shape := ⟨3, ![8, 768, 1536]⟩
abbrev S1x2048x8 : Shape := ⟨3, ![1, 2048, 8]⟩
abbrev S1x2048x2 : Shape := ⟨3, ![1, 2048, 2]⟩
abbrev S_ : Shape := ⟨0, ![]⟩
abbrev S1x2048 : Shape := ⟨2, ![1, 2048]⟩
abbrev S1x2048x1 : Shape := ⟨3, ![1, 2048, 1]⟩
abbrev S1x1536x768 : Shape := ⟨3, ![1, 1536, 768]⟩
abbrev S1536x768 : Shape := ⟨2, ![1536, 768]⟩
abbrev S1x2048x1536 : Shape := ⟨3, ![1, 2048, 1536]⟩
abbrev S1x768x1536 : Shape := ⟨3, ![1, 768, 1536]⟩
abbrev S768x1536 : Shape := ⟨2, ![768, 1536]⟩

abbrev nBuf : Space → Nat
  | .hbm => 264
  | .vmem => 0
  | .smem => 0
  | _ => 0

abbrev hbmTy0_0 (i : Nat) : BufTy := match i % 128 with
  | 0 => ⟨S1x2048x768, .f32⟩
  | 1 => ⟨S8x768, .f32⟩
  | 2 => ⟨S8x1536x768, .f32⟩
  | 3 => ⟨S8x1536x768, .f32⟩
  | 4 => ⟨S8x768x1536, .f32⟩
  | 5 => ⟨S1x2048x8, .f32⟩
  | 6 => ⟨S1x2048x2, .f32⟩
  | 7 => ⟨S1x2048x2, .i32⟩
  | 8 => ⟨S_, .f32⟩
  | 9 => ⟨S1x2048, .f32⟩
  | 10 => ⟨S_, .f32⟩
  | 11 => ⟨S1x2048, .f32⟩
  | 12 => ⟨S1x2048, .f32⟩
  | 13 => ⟨S1x2048x1, .f32⟩
  | 14 => ⟨S1x2048x2, .f32⟩
  | 15 => ⟨S1x2048x2, .f32⟩
  | 16 => ⟨S1x2048x2, .f32⟩
  | 17 => ⟨S_, .f32⟩
  | 18 => ⟨S1x2048, .f32⟩
  | 19 => ⟨S1x2048x1, .f32⟩
  | 20 => ⟨S1x2048x2, .f32⟩
  | 21 => ⟨S1x2048x2, .f32⟩
  | 22 => ⟨S_, .f32⟩
  | 23 => ⟨S1x2048x768, .f32⟩
  | 24 => ⟨S_, .i32⟩
  | 25 => ⟨S1x2048x2, .i32⟩
  | 26 => ⟨S1x2048x2, .i1⟩
  | 27 => ⟨S1x2048x2, .f32⟩
  | 28 => ⟨S1x2048x2, .f32⟩
  | 29 => ⟨S_, .f32⟩
  | 30 => ⟨S1x2048, .f32⟩
  | 31 => ⟨S1x1536x768, .f32⟩
  | 32 => ⟨S1536x768, .f32⟩
  | 33 => ⟨S1x2048x1536, .f32⟩
  | 34 => ⟨S1x2048x1536, .f32⟩
  | 35 => ⟨S1x2048x1536, .f32⟩
  | 36 => ⟨S_, .f32⟩
  | 37 => ⟨S1x2048x1536, .f32⟩
  | 38 => ⟨S1x2048x1536, .f32⟩
  | 39 => ⟨S_, .f32⟩
  | 40 => ⟨S1x2048x1536, .f32⟩
  | 41 => ⟨S1x2048x1536, .f32⟩
  | 42 => ⟨S1x2048x1536, .f32⟩
  | 43 => ⟨S1x1536x768, .f32⟩
  | 44 => ⟨S1536x768, .f32⟩
  | 45 => ⟨S1x2048x1536, .f32⟩
  | 46 => ⟨S1x2048x1536, .f32⟩
  | 47 => ⟨S1x768x1536, .f32⟩
  | 48 => ⟨S768x1536, .f32⟩
  | 49 => ⟨S1x2048x768, .f32⟩
  | 50 => ⟨S1x2048x1, .f32⟩
  | 51 => ⟨S1x2048x768, .f32⟩
  | 52 => ⟨S1x2048x768, .f32⟩
  | 53 => ⟨S1x2048x768, .f32⟩
  | 54 => ⟨S_, .i32⟩
  | 55 => ⟨S1x2048x2, .i32⟩
  | 56 => ⟨S1x2048x2, .i1⟩
  | 57 => ⟨S1x2048x2, .f32⟩
  | 58 => ⟨S1x2048x2, .f32⟩
  | 59 => ⟨S_, .f32⟩
  | 60 => ⟨S1x2048, .f32⟩
  | 61 => ⟨S1x1536x768, .f32⟩
  | 62 => ⟨S1536x768, .f32⟩
  | 63 => ⟨S1x2048x1536, .f32⟩
  | 64 => ⟨S1x2048x1536, .f32⟩
  | 65 => ⟨S1x2048x1536, .f32⟩
  | 66 => ⟨S_, .f32⟩
  | 67 => ⟨S1x2048x1536, .f32⟩
  | 68 => ⟨S1x2048x1536, .f32⟩
  | 69 => ⟨S_, .f32⟩
  | 70 => ⟨S1x2048x1536, .f32⟩
  | 71 => ⟨S1x2048x1536, .f32⟩
  | 72 => ⟨S1x2048x1536, .f32⟩
  | 73 => ⟨S1x1536x768, .f32⟩
  | 74 => ⟨S1536x768, .f32⟩
  | 75 => ⟨S1x2048x1536, .f32⟩
  | 76 => ⟨S1x2048x1536, .f32⟩
  | 77 => ⟨S1x768x1536, .f32⟩
  | 78 => ⟨S768x1536, .f32⟩
  | 79 => ⟨S1x2048x768, .f32⟩
  | 80 => ⟨S1x2048x1, .f32⟩
  | 81 => ⟨S1x2048x768, .f32⟩
  | 82 => ⟨S1x2048x768, .f32⟩
  | 83 => ⟨S1x2048x768, .f32⟩
  | 84 => ⟨S_, .i32⟩
  | 85 => ⟨S1x2048x2, .i32⟩
  | 86 => ⟨S1x2048x2, .i1⟩
  | 87 => ⟨S1x2048x2, .f32⟩
  | 88 => ⟨S1x2048x2, .f32⟩
  | 89 => ⟨S_, .f32⟩
  | 90 => ⟨S1x2048, .f32⟩
  | 91 => ⟨S1x1536x768, .f32⟩
  | 92 => ⟨S1536x768, .f32⟩
  | 93 => ⟨S1x2048x1536, .f32⟩
  | 94 => ⟨S1x2048x1536, .f32⟩
  | 95 => ⟨S1x2048x1536, .f32⟩
  | 96 => ⟨S_, .f32⟩
  | 97 => ⟨S1x2048x1536, .f32⟩
  | 98 => ⟨S1x2048x1536, .f32⟩
  | 99 => ⟨S_, .f32⟩
  | 100 => ⟨S1x2048x1536, .f32⟩
  | 101 => ⟨S1x2048x1536, .f32⟩
  | 102 => ⟨S1x2048x1536, .f32⟩
  | 103 => ⟨S1x1536x768, .f32⟩
  | 104 => ⟨S1536x768, .f32⟩
  | 105 => ⟨S1x2048x1536, .f32⟩
  | 106 => ⟨S1x2048x1536, .f32⟩
  | 107 => ⟨S1x768x1536, .f32⟩
  | 108 => ⟨S768x1536, .f32⟩
  | 109 => ⟨S1x2048x768, .f32⟩
  | 110 => ⟨S1x2048x1, .f32⟩
  | 111 => ⟨S1x2048x768, .f32⟩
  | 112 => ⟨S1x2048x768, .f32⟩
  | 113 => ⟨S1x2048x768, .f32⟩
  | 114 => ⟨S_, .i32⟩
  | 115 => ⟨S1x2048x2, .i32⟩
  | 116 => ⟨S1x2048x2, .i1⟩
  | 117 => ⟨S1x2048x2, .f32⟩
  | 118 => ⟨S1x2048x2, .f32⟩
  | 119 => ⟨S_, .f32⟩
  | 120 => ⟨S1x2048, .f32⟩
  | 121 => ⟨S1x1536x768, .f32⟩
  | 122 => ⟨S1536x768, .f32⟩
  | 123 => ⟨S1x2048x1536, .f32⟩
  | 124 => ⟨S1x2048x1536, .f32⟩
  | 125 => ⟨S1x2048x1536, .f32⟩
  | 126 => ⟨S_, .f32⟩
  | 127 => ⟨S1x2048x1536, .f32⟩
  | _ => ⟨S1x2048x768, .f32⟩

abbrev hbmTy0_1 (i : Nat) : BufTy := match i % 128 with
  | 0 => ⟨S1x2048x1536, .f32⟩
  | 1 => ⟨S_, .f32⟩
  | 2 => ⟨S1x2048x1536, .f32⟩
  | 3 => ⟨S1x2048x1536, .f32⟩
  | 4 => ⟨S1x2048x1536, .f32⟩
  | 5 => ⟨S1x1536x768, .f32⟩
  | 6 => ⟨S1536x768, .f32⟩
  | 7 => ⟨S1x2048x1536, .f32⟩
  | 8 => ⟨S1x2048x1536, .f32⟩
  | 9 => ⟨S1x768x1536, .f32⟩
  | 10 => ⟨S768x1536, .f32⟩
  | 11 => ⟨S1x2048x768, .f32⟩
  | 12 => ⟨S1x2048x1, .f32⟩
  | 13 => ⟨S1x2048x768, .f32⟩
  | 14 => ⟨S1x2048x768, .f32⟩
  | 15 => ⟨S1x2048x768, .f32⟩
  | 16 => ⟨S_, .i32⟩
  | 17 => ⟨S1x2048x2, .i32⟩
  | 18 => ⟨S1x2048x2, .i1⟩
  | 19 => ⟨S1x2048x2, .f32⟩
  | 20 => ⟨S1x2048x2, .f32⟩
  | 21 => ⟨S_, .f32⟩
  | 22 => ⟨S1x2048, .f32⟩
  | 23 => ⟨S1x1536x768, .f32⟩
  | 24 => ⟨S1536x768, .f32⟩
  | 25 => ⟨S1x2048x1536, .f32⟩
  | 26 => ⟨S1x2048x1536, .f32⟩
  | 27 => ⟨S1x2048x1536, .f32⟩
  | 28 => ⟨S_, .f32⟩
  | 29 => ⟨S1x2048x1536, .f32⟩
  | 30 => ⟨S1x2048x1536, .f32⟩
  | 31 => ⟨S_, .f32⟩
  | 32 => ⟨S1x2048x1536, .f32⟩
  | 33 => ⟨S1x2048x1536, .f32⟩
  | 34 => ⟨S1x2048x1536, .f32⟩
  | 35 => ⟨S1x1536x768, .f32⟩
  | 36 => ⟨S1536x768, .f32⟩
  | 37 => ⟨S1x2048x1536, .f32⟩
  | 38 => ⟨S1x2048x1536, .f32⟩
  | 39 => ⟨S1x768x1536, .f32⟩
  | 40 => ⟨S768x1536, .f32⟩
  | 41 => ⟨S1x2048x768, .f32⟩
  | 42 => ⟨S1x2048x1, .f32⟩
  | 43 => ⟨S1x2048x768, .f32⟩
  | 44 => ⟨S1x2048x768, .f32⟩
  | 45 => ⟨S1x2048x768, .f32⟩
  | 46 => ⟨S_, .i32⟩
  | 47 => ⟨S1x2048x2, .i32⟩
  | 48 => ⟨S1x2048x2, .i1⟩
  | 49 => ⟨S1x2048x2, .f32⟩
  | 50 => ⟨S1x2048x2, .f32⟩
  | 51 => ⟨S_, .f32⟩
  | 52 => ⟨S1x2048, .f32⟩
  | 53 => ⟨S1x1536x768, .f32⟩
  | 54 => ⟨S1536x768, .f32⟩
  | 55 => ⟨S1x2048x1536, .f32⟩
  | 56 => ⟨S1x2048x1536, .f32⟩
  | 57 => ⟨S1x2048x1536, .f32⟩
  | 58 => ⟨S_, .f32⟩
  | 59 => ⟨S1x2048x1536, .f32⟩
  | 60 => ⟨S1x2048x1536, .f32⟩
  | 61 => ⟨S_, .f32⟩
  | 62 => ⟨S1x2048x1536, .f32⟩
  | 63 => ⟨S1x2048x1536, .f32⟩
  | 64 => ⟨S1x2048x1536, .f32⟩
  | 65 => ⟨S1x1536x768, .f32⟩
  | 66 => ⟨S1536x768, .f32⟩
  | 67 => ⟨S1x2048x1536, .f32⟩
  | 68 => ⟨S1x2048x1536, .f32⟩
  | 69 => ⟨S1x768x1536, .f32⟩
  | 70 => ⟨S768x1536, .f32⟩
  | 71 => ⟨S1x2048x768, .f32⟩
  | 72 => ⟨S1x2048x1, .f32⟩
  | 73 => ⟨S1x2048x768, .f32⟩
  | 74 => ⟨S1x2048x768, .f32⟩
  | 75 => ⟨S1x2048x768, .f32⟩
  | 76 => ⟨S_, .i32⟩
  | 77 => ⟨S1x2048x2, .i32⟩
  | 78 => ⟨S1x2048x2, .i1⟩
  | 79 => ⟨S1x2048x2, .f32⟩
  | 80 => ⟨S1x2048x2, .f32⟩
  | 81 => ⟨S_, .f32⟩
  | 82 => ⟨S1x2048, .f32⟩
  | 83 => ⟨S1x1536x768, .f32⟩
  | 84 => ⟨S1536x768, .f32⟩
  | 85 => ⟨S1x2048x1536, .f32⟩
  | 86 => ⟨S1x2048x1536, .f32⟩
  | 87 => ⟨S1x2048x1536, .f32⟩
  | 88 => ⟨S_, .f32⟩
  | 89 => ⟨S1x2048x1536, .f32⟩
  | 90 => ⟨S1x2048x1536, .f32⟩
  | 91 => ⟨S_, .f32⟩
  | 92 => ⟨S1x2048x1536, .f32⟩
  | 93 => ⟨S1x2048x1536, .f32⟩
  | 94 => ⟨S1x2048x1536, .f32⟩
  | 95 => ⟨S1x1536x768, .f32⟩
  | 96 => ⟨S1536x768, .f32⟩
  | 97 => ⟨S1x2048x1536, .f32⟩
  | 98 => ⟨S1x2048x1536, .f32⟩
  | 99 => ⟨S1x768x1536, .f32⟩
  | 100 => ⟨S768x1536, .f32⟩
  | 101 => ⟨S1x2048x768, .f32⟩
  | 102 => ⟨S1x2048x1, .f32⟩
  | 103 => ⟨S1x2048x768, .f32⟩
  | 104 => ⟨S1x2048x768, .f32⟩
  | 105 => ⟨S1x2048x768, .f32⟩
  | 106 => ⟨S_, .i32⟩
  | 107 => ⟨S1x2048x2, .i32⟩
  | 108 => ⟨S1x2048x2, .i1⟩
  | 109 => ⟨S1x2048x2, .f32⟩
  | 110 => ⟨S1x2048x2, .f32⟩
  | 111 => ⟨S_, .f32⟩
  | 112 => ⟨S1x2048, .f32⟩
  | 113 => ⟨S1x1536x768, .f32⟩
  | 114 => ⟨S1536x768, .f32⟩
  | 115 => ⟨S1x2048x1536, .f32⟩
  | 116 => ⟨S1x2048x1536, .f32⟩
  | 117 => ⟨S1x2048x1536, .f32⟩
  | 118 => ⟨S_, .f32⟩
  | 119 => ⟨S1x2048x1536, .f32⟩
  | 120 => ⟨S1x2048x1536, .f32⟩
  | 121 => ⟨S_, .f32⟩
  | 122 => ⟨S1x2048x1536, .f32⟩
  | 123 => ⟨S1x2048x1536, .f32⟩
  | 124 => ⟨S1x2048x1536, .f32⟩
  | 125 => ⟨S1x1536x768, .f32⟩
  | 126 => ⟨S1536x768, .f32⟩
  | 127 => ⟨S1x2048x1536, .f32⟩
  | _ => ⟨S1x2048x768, .f32⟩

abbrev hbmTy0_2 (i : Nat) : BufTy := match i % 128 with
  | 0 => ⟨S1x2048x1536, .f32⟩
  | 1 => ⟨S1x768x1536, .f32⟩
  | 2 => ⟨S768x1536, .f32⟩
  | 3 => ⟨S1x2048x768, .f32⟩
  | 4 => ⟨S1x2048x1, .f32⟩
  | 5 => ⟨S1x2048x768, .f32⟩
  | 6 => ⟨S1x2048x768, .f32⟩
  | 7 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_8 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_9 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call3_v0 : Ref sig .tc := ⟨.hbm, 124, rfl⟩
abbrev main_call3_v1 : Ref sig .tc := ⟨.hbm, 125, rfl⟩
abbrev main_call3_cst : Ref sig .tc := ⟨.hbm, 126, rfl⟩
abbrev main_call3_v2 : Ref sig .tc := ⟨.hbm, 127, rfl⟩
abbrev main_call3_v3 : Ref sig .tc := ⟨.hbm, 128, rfl⟩
abbrev main_call3_cst_0 : Ref sig .tc := ⟨.hbm, 129, rfl⟩
abbrev main_call3_v4 : Ref sig .tc := ⟨.hbm, 130, rfl⟩
abbrev main_call3_v5 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_10 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_11 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_call4_v0 : Ref sig .tc := ⟨.hbm, 154, rfl⟩
abbrev main_call4_v1 : Ref sig .tc := ⟨.hbm, 155, rfl⟩
abbrev main_call4_cst : Ref sig .tc := ⟨.hbm, 156, rfl⟩
abbrev main_call4_v2 : Ref sig .tc := ⟨.hbm, 157, rfl⟩
abbrev main_call4_v3 : Ref sig .tc := ⟨.hbm, 158, rfl⟩
abbrev main_call4_cst_0 : Ref sig .tc := ⟨.hbm, 159, rfl⟩
abbrev main_call4_v4 : Ref sig .tc := ⟨.hbm, 160, rfl⟩
abbrev main_call4_v5 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_12 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_13 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_call5_v0 : Ref sig .tc := ⟨.hbm, 184, rfl⟩
abbrev main_call5_v1 : Ref sig .tc := ⟨.hbm, 185, rfl⟩
abbrev main_call5_cst : Ref sig .tc := ⟨.hbm, 186, rfl⟩
abbrev main_call5_v2 : Ref sig .tc := ⟨.hbm, 187, rfl⟩
abbrev main_call5_v3 : Ref sig .tc := ⟨.hbm, 188, rfl⟩
abbrev main_call5_cst_0 : Ref sig .tc := ⟨.hbm, 189, rfl⟩
abbrev main_call5_v4 : Ref sig .tc := ⟨.hbm, 190, rfl⟩
abbrev main_call5_v5 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_c_14 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_cst_15 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_call6_v0 : Ref sig .tc := ⟨.hbm, 214, rfl⟩
abbrev main_call6_v1 : Ref sig .tc := ⟨.hbm, 215, rfl⟩
abbrev main_call6_cst : Ref sig .tc := ⟨.hbm, 216, rfl⟩
abbrev main_call6_v2 : Ref sig .tc := ⟨.hbm, 217, rfl⟩
abbrev main_call6_v3 : Ref sig .tc := ⟨.hbm, 218, rfl⟩
abbrev main_call6_cst_0 : Ref sig .tc := ⟨.hbm, 219, rfl⟩
abbrev main_call6_v4 : Ref sig .tc := ⟨.hbm, 220, rfl⟩
abbrev main_call6_v5 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_c_16 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_cst_17 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_call7_v0 : Ref sig .tc := ⟨.hbm, 244, rfl⟩
abbrev main_call7_v1 : Ref sig .tc := ⟨.hbm, 245, rfl⟩
abbrev main_call7_cst : Ref sig .tc := ⟨.hbm, 246, rfl⟩
abbrev main_call7_v2 : Ref sig .tc := ⟨.hbm, 247, rfl⟩
abbrev main_call7_v3 : Ref sig .tc := ⟨.hbm, 248, rfl⟩
abbrev main_call7_cst_0 : Ref sig .tc := ⟨.hbm, 249, rfl⟩
abbrev main_call7_v4 : Ref sig .tc := ⟨.hbm, 250, rfl⟩
abbrev main_call7_v5 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩

abbrev nD : Nat := 1
abbrev τ : Topo := Topo.v7x

variable {F : FTy → Type} [FloatOps F]
-- ==== Proof.Run.lean ====
/-
  The kernel body, run once for each of the three cases of the expert coordinate: the first expert (the running sum
  is overwritten), a middle expert (the running sum is added to) and the last expert (the running sum is added to and
  copied to the output block). Every case is stated by what the scratch and the output block hold afterwards.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.DatRel
public import Idealize.ShloMosaic.Lib.Pipeline.Value
public import Idealize.ShloMosaic.Lib.Pointwise.Index
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The running sum's scratch buffer, whole. -/
abbrev scM : Memref sig .tc .vmem S2048x768 .f32 := Memref.whole cc0_scratch0

/-- Row `p 0` of row block `b`, column `p 1`, as an index of the whole array. -/
def blk (b : Fin 8) (p : S256x768.Idx) : S2048x768.Idx :=
  ix2 (n0 := 2048) (n1 := 768) ⟨256 * b.val + (p 0).val, by have h : (p 0).val < 256 := (p 0).isLt; have := b.isLt; omega⟩ (p 1)

/-- What one expert adds to the running sum of a row block, from the blocks the body loads. -/
def contrib (i : grid0.Coords) (d2 : Vec F S256x768 .f32) (d3 : Vec F S8x768 .f32) (d4 d5 : Vec F S1x1536x768 .f32)
    (d6 : Vec F S1x768x1536 .f32) : FVec F S256x768 .f32 :=
  k0_pay1 (k0_pay4 d2) (k0_pay11 d2 d3) (k0_pay12 i d2 d3) (k0_pay13 i d2 d3) k0_pay14 d4 d5 d6

/-- The three stores' rectangles, over the running sum's rows of block `i 1`. -/
theorem emb_blk (i : grid0.Coords) (off : Fin 2 → Nat) (h : off = ![256 * (i 1).val, 0])
    (inb : ∀ a, off a + S256x768.size a ≤ S2048x768.size a) (p : S256x768.Idx) :
    (Rect.unit (s := S2048x768) off S256x768.size inb).emb p = blk (i 1) p := by
  subst h
  refine Rect.emb_eq_of_coords _ _ _ fun a => ?_
  match a with
  | ⟨0, _⟩ => show 256 * (i 1).val + (p 0).val = 256 * (i 1).val + 1 * (p 0).val; omega
  | ⟨1, _⟩ => show (p 1).val = 0 + 1 * (p 1).val; omega

/-- A row outside block `i 1` is outside the rectangle. -/
theorem not_mem_rect (i : grid0.Coords) (off : Fin 2 → Nat) (h : off = ![256 * (i 1).val, 0])
    (inb : ∀ a, off a + S256x768.size a ≤ S2048x768.size a) (b : Fin 8) (hb : b ≠ i 1) (p : S256x768.Idx) :
    blk b p ∉ (Rect.unit (s := S2048x768) off S256x768.size inb).set := by
  subst h
  have hb' : b.val ≠ (i 1).val := fun e => hb (Fin.ext e)
  have hp : (p 0).val < 256 := (p 0).isLt
  refine Rect.not_mem_set_of_axis _ _ (0 : Fin 2) (256 * (i 1).val) 256 rfl rfl rfl ?_
  show 256 * b.val + (p 0).val < 256 * (i 1).val ∨ 256 * (i 1).val + 256 ≤ 256 * b.val + (p 0).val
  omega

/-- What a load of block `i 1`'s rows reads after a store of the same rows: the stored value. -/
theorem cov_eq (i : grid0.Coords) (off off' : Fin 2 → Nat) (h : off = ![256 * (i 1).val, 0]) (h' : off' = ![256 * (i 1).val, 0])
    (inb : ∀ a, off a + S256x768.size a ≤ S2048x768.size a) (inb' : ∀ a, off' a + S256x768.size a ≤ S2048x768.size a)
    (w : Vec F S256x768 .f32) (p : S256x768.Idx) :
    scM.view.readCov [(⟨Rect.unit (s := S2048x768) off S256x768.size inb, w⟩ : View.Piece (Elt F) S2048x768 .f32)]
      (Rect.unit (s := S2048x768) off' S256x768.size inb').toLoadRect p = w p := by
  show scM.view.read (Elt F) (scM.view.writes (Elt F) _ _) ((Rect.unit (s := S2048x768) off' S256x768.size inb').emb p) = w p
  rw [emb_blk i off' h' inb' p, ← emb_blk i off h inb p]
  exact View.read_writes_cons_emb _ _ _ _ _ _

/-- Adding to the running sum: the store's value is the old rows plus the expert's contribution. -/
theorem pay3_apply (i : grid0.Coords) (d2 : Vec F S256x768 .f32) (d3 : Vec F S8x768 .f32) (d4 d5 : Vec F S1x1536x768 .f32)
    (d6 : Vec F S1x768x1536 .f32) (o : Vec F S256x768 .f32) :
    k0_pay3 (k0_pay4 d2) (k0_pay11 d2 d3) (k0_pay12 i d2 d3) (k0_pay13 i d2 d3) k0_pay14 d4 d5 d6 o
      = addf o (contrib i d2 d3 d4 d5 d6) := by
  unfold k0_pay3 contrib
  exact funext fun _ => congrArg _ (Shape.reshapeEquiv_self _ _)

/-- Starting the running sum: the store's value is the expert's contribution. -/
theorem pay2_apply (i : grid0.Coords) (d2 : Vec F S256x768 .f32) (d3 : Vec F S8x768 .f32) (d4 d5 : Vec F S1x1536x768 .f32)
    (d6 : Vec F S1x768x1536 .f32) :
    k0_pay2 (k0_pay4 d2) (k0_pay11 d2 d3) (k0_pay12 i d2 d3) (k0_pay13 i d2 d3) k0_pay14 d4 d5 d6
      = contrib i d2 d3 d4 d5 d6 := by
  unfold k0_pay2 contrib
  exact funext fun _ => congrArg _ (Shape.reshapeEquiv_self _ _)

/-- The first expert: block `i 1` of the running sum is overwritten with the contribution, the other blocks and the output block stay. -/
theorem run_first (c : Dev nD) (i : grid0.Coords) (h1 : k0_cond1 i = 1#1) (h2 : ¬ k0_cond2 i = 1#1) (h3 : ¬ k0_cond3 i = 1#1)
    (a2 : Memref sig .tc .vmem S256x768 .f32) (ha2 : a2.IsWhole)
    (a3 : Memref sig .tc .vmem S8x768 .f32) (ha3 : a3.IsWhole) (a4 : Memref sig .tc .vmem S1x1536x768 .f32) (ha4 : a4.IsWhole)
    (a5 : Memref sig .tc .vmem S1x1536x768 .f32) (ha5 : a5.IsWhole) (a6 : Memref sig .tc .vmem S1x768x1536 .f32) (ha6 : a6.IsWhole)
    (a7 : Memref sig .tc .vmem S256x768 .f32) (ha7 : a7.IsWhole)
    (d2 : Vec F S256x768 .f32) (d3 : Vec F S8x768 .f32) (d4 d5 : Vec F S1x1536x768 .f32) (d6 : Vec F S1x768x1536 .f32)
    (d7 : Vec F S256x768 .f32) (fs : Vec F S2048x768 .f32) (K : PUnit → sProp 𝕄) :
    iprop(owns (c : Thread nD τ) a2 fullShare d2 ∗ owns (c : Thread nD τ) a3 fullShare d3
        ∗ owns (c : Thread nD τ) a4 fullShare d4 ∗ owns (c : Thread nD τ) a5 fullShare d5
        ∗ owns (c : Thread nD τ) a6 fullShare d6 ∗ owns (c : Thread nD τ) a7 fullShare d7
        ∗ owns (c : Thread nD τ) scM fullShare fs
        ∗ (iprop(owns (c : Thread nD τ) a2 fullShare d2 ∗ owns (c : Thread nD τ) a3 fullShare d3
            ∗ owns (c : Thread nD τ) a4 fullShare d4 ∗ owns (c : Thread nD τ) a5 fullShare d5
            ∗ owns (c : Thread nD τ) a6 fullShare d6
            ∗ ∃ Xs : Vec F S2048x768 .f32, ⌜(∀ p, Xs (blk (i 1) p) = contrib i d2 d3 d4 d5 d6 p)
                ∧ ∀ b, b ≠ i 1 → ∀ p, Xs (blk b p) = fs (blk b p)⌝
              ∗ owns (c : Thread nD τ) scM fullShare Xs
              ∗ owns (c : Thread nD τ) a7 fullShare d7) -∗ K ⟨⟩))
      ⊢ wp frame (wpE (defs₀ (F := F)) Variants.none c none) Set.univ
          (cc0__moe_body i a2 ha2 a3 ha3 a4 ha4 a5 ha5 a6 ha6 a7 ha7 scM (Memref.isWhole_whole _)) K := by
  simp only [cc0__moe_body_eq_skeleton]; unfold cc0__moe_body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, HS⟩, Hk⟩
  sl_exec
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _; isplitr; swap
  · isplitl [HS]; · iexists _; isplitr; swap; · iexact HS
                    ipureintro; rfl
    iexists f7; isplitr; swap; · iexact H7
    ipureintro; exact e7
  · ipureintro
    sl_unfold_run_names
    have l2 := (View.readAt_full a2.view f2 inb_S256x768_S256x768_0_0).trans e2
    have l3 := (View.readAt_full a3.view f3 inb_S8x768_S8x768_0_0).trans e3
    have l4 := (View.readAt_full a4.view f4 inb_S1x1536x768_S1x1536x768_0_0_0).trans e4
    have l5 := (View.readAt_full a5.view f5 inb_S1x1536x768_S1x1536x768_0_0_0).trans e5
    have l6 := (View.readAt_full a6.view f6 inb_S1x768x1536_S1x768x1536_0_0_0).trans e6
    dsimp only at l2 l3 l4 l5 l6 ⊢
    simp only [l2, l3, l4, l5, l6]
    refine ⟨fun p => ?_, fun b hb p => ?_⟩
    · rw [← emb_blk i _ (k0_off1_eq i) (k0_off1_inb i h1) p]
      refine (View.read_writes_cons_emb _ _ _ _ _ _).trans ?_
      rw [pay2_apply]
    · refine (View.read_writes_apply_of_forall_not_mem _ _ _ _ ?_).trans (congrFun e8 _)
      intro q hq
      obtain rfl := List.mem_singleton.mp hq
      exact not_mem_rect i _ (k0_off1_eq i) (k0_off1_inb i h1) b hb p

/-- A middle expert: the contribution is added to block `i 1` of the running sum, the other blocks and the output block stay. -/
theorem run_middle (c : Dev nD) (i : grid0.Coords) (h1 : ¬ k0_cond1 i = 1#1) (h2 : k0_cond2 i = 1#1) (h3 : ¬ k0_cond3 i = 1#1)
    (a2 : Memref sig .tc .vmem S256x768 .f32) (ha2 : a2.IsWhole)
    (a3 : Memref sig .tc .vmem S8x768 .f32) (ha3 : a3.IsWhole) (a4 : Memref sig .tc .vmem S1x1536x768 .f32) (ha4 : a4.IsWhole)
    (a5 : Memref sig .tc .vmem S1x1536x768 .f32) (ha5 : a5.IsWhole) (a6 : Memref sig .tc .vmem S1x768x1536 .f32) (ha6 : a6.IsWhole)
    (a7 : Memref sig .tc .vmem S256x768 .f32) (ha7 : a7.IsWhole)
    (d2 : Vec F S256x768 .f32) (d3 : Vec F S8x768 .f32) (d4 d5 : Vec F S1x1536x768 .f32) (d6 : Vec F S1x768x1536 .f32)
    (d7 : Vec F S256x768 .f32) (fs : Vec F S2048x768 .f32) (K : PUnit → sProp 𝕄) :
    iprop(owns (c : Thread nD τ) a2 fullShare d2 ∗ owns (c : Thread nD τ) a3 fullShare d3
        ∗ owns (c : Thread nD τ) a4 fullShare d4 ∗ owns (c : Thread nD τ) a5 fullShare d5
        ∗ owns (c : Thread nD τ) a6 fullShare d6 ∗ owns (c : Thread nD τ) a7 fullShare d7
        ∗ owns (c : Thread nD τ) scM fullShare fs
        ∗ (iprop(owns (c : Thread nD τ) a2 fullShare d2 ∗ owns (c : Thread nD τ) a3 fullShare d3
            ∗ owns (c : Thread nD τ) a4 fullShare d4 ∗ owns (c : Thread nD τ) a5 fullShare d5
            ∗ owns (c : Thread nD τ) a6 fullShare d6
            ∗ ∃ Xs : Vec F S2048x768 .f32, ⌜(∀ p, Xs (blk (i 1) p) = addf (fun p => fs (blk (i 1) p)) (contrib i d2 d3 d4 d5 d6) p)
                ∧ ∀ b, b ≠ i 1 → ∀ p, Xs (blk b p) = fs (blk b p)⌝
              ∗ owns (c : Thread nD τ) scM fullShare Xs
              ∗ owns (c : Thread nD τ) a7 fullShare d7) -∗ K ⟨⟩))
      ⊢ wp frame (wpE (defs₀ (F := F)) Variants.none c none) Set.univ
          (cc0__moe_body i a2 ha2 a3 ha3 a4 ha4 a5 ha5 a6 ha6 a7 ha7 scM (Memref.isWhole_whole _)) K := by
  simp only [cc0__moe_body_eq_skeleton]; unfold cc0__moe_body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, HS⟩, Hk⟩
  sl_exec
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _; isplitr; swap
  · isplitl [HS]; · iexists _; isplitr; swap; · iexact HS
                    ipureintro; rfl
    iexists f7; isplitr; swap; · iexact H7
    ipureintro; exact e7
  · ipureintro
    sl_unfold_run_names
    have l2 := (View.readAt_full a2.view f2 inb_S256x768_S256x768_0_0).trans e2
    have l3 := (View.readAt_full a3.view f3 inb_S8x768_S8x768_0_0).trans e3
    have l4 := (View.readAt_full a4.view f4 inb_S1x1536x768_S1x1536x768_0_0_0).trans e4
    have l5 := (View.readAt_full a5.view f5 inb_S1x1536x768_S1x1536x768_0_0_0).trans e5
    have l6 := (View.readAt_full a6.view f6 inb_S1x768x1536_S1x768x1536_0_0_0).trans e6
    dsimp only at l2 l3 l4 l5 l6 ⊢
    simp only [l2, l3, l4, l5, l6]
    refine ⟨fun p => ?_, fun b hb p => ?_⟩
    · rw [← emb_blk i _ (k0_off2_eq i) (k0_off2_inb i h2) p]
      refine (View.read_writes_cons_emb _ _ _ _ _ _).trans ?_
      rw [pay3_apply]
      refine congrArg (fun o : Vec F S256x768 .f32 => addf o (contrib i d2 d3 d4 d5 d6) p) (funext fun q => ?_)
      refine Eq.trans ?_ (congrFun e8 _)
      exact congrArg (View.read (Elt F) _ f8) (emb_blk i _ (k0_off2_eq i) (k0_off2_inb i h2) q)
    · refine (View.read_writes_apply_of_forall_not_mem _ _ _ _ ?_).trans (congrFun e8 _)
      intro q hq
      obtain rfl := List.mem_singleton.mp hq
      exact not_mem_rect i _ (k0_off2_eq i) (k0_off2_inb i h2) b hb p

/-- The last expert: the contribution is added to block `i 1` of the running sum and that block is copied to the output. -/
theorem run_last (c : Dev nD) (i : grid0.Coords) (h1 : ¬ k0_cond1 i = 1#1) (h2 : k0_cond2 i = 1#1) (h3 : k0_cond3 i = 1#1)
    (a2 : Memref sig .tc .vmem S256x768 .f32) (ha2 : a2.IsWhole)
    (a3 : Memref sig .tc .vmem S8x768 .f32) (ha3 : a3.IsWhole) (a4 : Memref sig .tc .vmem S1x1536x768 .f32) (ha4 : a4.IsWhole)
    (a5 : Memref sig .tc .vmem S1x1536x768 .f32) (ha5 : a5.IsWhole) (a6 : Memref sig .tc .vmem S1x768x1536 .f32) (ha6 : a6.IsWhole)
    (a7 : Memref sig .tc .vmem S256x768 .f32) (ha7 : a7.IsWhole)
    (d2 : Vec F S256x768 .f32) (d3 : Vec F S8x768 .f32) (d4 d5 : Vec F S1x1536x768 .f32) (d6 : Vec F S1x768x1536 .f32)
    (d7 : Vec F S256x768 .f32) (fs : Vec F S2048x768 .f32) (K : PUnit → sProp 𝕄) :
    iprop(owns (c : Thread nD τ) a2 fullShare d2 ∗ owns (c : Thread nD τ) a3 fullShare d3
        ∗ owns (c : Thread nD τ) a4 fullShare d4 ∗ owns (c : Thread nD τ) a5 fullShare d5
        ∗ owns (c : Thread nD τ) a6 fullShare d6 ∗ owns (c : Thread nD τ) a7 fullShare d7
        ∗ owns (c : Thread nD τ) scM fullShare fs
        ∗ (iprop(owns (c : Thread nD τ) a2 fullShare d2 ∗ owns (c : Thread nD τ) a3 fullShare d3
            ∗ owns (c : Thread nD τ) a4 fullShare d4 ∗ owns (c : Thread nD τ) a5 fullShare d5
            ∗ owns (c : Thread nD τ) a6 fullShare d6
            ∗ ∃ Xs : Vec F S2048x768 .f32, ⌜(∀ p, Xs (blk (i 1) p) = addf (fun p => fs (blk (i 1) p)) (contrib i d2 d3 d4 d5 d6) p)
                ∧ ∀ b, b ≠ i 1 → ∀ p, Xs (blk b p) = fs (blk b p)⌝
              ∗ owns (c : Thread nD τ) scM fullShare Xs
              ∗ owns (c : Thread nD τ) a7 fullShare (fun p => Xs (blk (i 1) p))) -∗ K ⟨⟩))
      ⊢ wp frame (wpE (defs₀ (F := F)) Variants.none c none) Set.univ
          (cc0__moe_body i a2 ha2 a3 ha3 a4 ha4 a5 ha5 a6 ha6 a7 ha7 scM (Memref.isWhole_whole _)) K := by
  simp only [cc0__moe_body_eq_skeleton]; unfold cc0__moe_body_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, HS⟩, Hk⟩
  sl_exec
  sl_step
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _; isplitr; swap
  · isplitl [HS]; · iexists _; isplitr; swap; · iexact HS
                    ipureintro; rfl
    iexists _; isplitr; swap; · iexact H7
    ipureintro
    refine (View.read_writes_full a7.view f7 _ _ []).trans ?_
    funext p
    rw [← emb_blk i _ (k0_off2_eq i) (k0_off2_inb i h2) p]
    refine Eq.trans ?_ (View.read_writes_cons_emb _ _ _ _ _ _).symm
    sl_unfold_run_names
    exact cov_eq i _ _ (k0_off2_eq i) (k0_off3_eq i) (k0_off2_inb i h2) (k0_off3_inb i h3) _ p
  · ipureintro
    sl_unfold_run_names
    have l2 := (View.readAt_full a2.view f2 inb_S256x768_S256x768_0_0).trans e2
    have l3 := (View.readAt_full a3.view f3 inb_S8x768_S8x768_0_0).trans e3
    have l4 := (View.readAt_full a4.view f4 inb_S1x1536x768_S1x1536x768_0_0_0).trans e4
    have l5 := (View.readAt_full a5.view f5 inb_S1x1536x768_S1x1536x768_0_0_0).trans e5
    have l6 := (View.readAt_full a6.view f6 inb_S1x768x1536_S1x768x1536_0_0_0).trans e6
    dsimp only at l2 l3 l4 l5 l6 ⊢
    simp only [l2, l3, l4, l5, l6]
    refine ⟨fun p => ?_, fun b hb p => ?_⟩
    · rw [← emb_blk i _ (k0_off2_eq i) (k0_off2_inb i h2) p]
      refine (View.read_writes_cons_emb _ _ _ _ _ _).trans ?_
      rw [pay3_apply]
      refine congrArg (fun o : Vec F S256x768 .f32 => addf o (contrib i d2 d3 d4 d5 d6) p) (funext fun q => ?_)
      refine Eq.trans ?_ (congrFun e8 _)
      exact congrArg (View.read (Elt F) _ f8) (emb_blk i _ (k0_off2_eq i) (k0_off2_inb i h2) q)
    · refine (View.read_writes_apply_of_forall_not_mem _ _ _ _ ?_).trans (congrFun e8 _)
      intro q hq
      obtain rfl := List.mem_singleton.mp hq
      exact not_mem_rect i _ (k0_off2_eq i) (k0_off2_inb i h2) b hb p

end Cert.KernelIdeal.Hand

end
-- ==== Proof.Data.lean ====
/-
  The proof data of the pipeline and its body obligation. Between two grid points the scratch is described by `Inv`: a
  block of rows that has met experts `0 … e` holds the sum of their contributions, added in this order. The output
  window is described only at the last expert, where it holds the finished sum; before that the pipeline writes back
  whatever the staging buffer happens to hold.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- Grid point `t` is expert `t / 8` … -/
theorem coords_e : ∀ t : Fin cfg0.N, ((grid0.coords t) 0).val = t.val / 8 := by decide +kernel
/-- … at row block `t % 8`. -/
theorem coords_b : ∀ t : Fin cfg0.N, ((grid0.coords t) 1).val = t.val % 8 := by decide +kernel
/-- The body's first branch is taken at expert 0, … -/
theorem cond1_iff : ∀ t : Fin cfg0.N, k0_cond1 (grid0.coords t) = 1#1 ↔ t.val / 8 = 0 := by decide +kernel
/-- … the second at every later one … -/
theorem cond2_iff : ∀ t : Fin cfg0.N, k0_cond2 (grid0.coords t) = 1#1 ↔ t.val / 8 ≠ 0 := by decide +kernel
/-- … and the third at the last. -/
theorem cond3_iff : ∀ t : Fin cfg0.N, k0_cond3 (grid0.coords t) = 1#1 ↔ t.val / 8 = 7 := by decide +kernel

/-! ## The contributions and their running sum -/

/-- What point `t` adds to its row block: its expert's contribution, off the blocks that the windows stage there. -/
def conAt (c : Dev nD) (t : Fin cfg0.N) : Vec F S256x768 .f32 :=
  contrib (grid0.coords t) (iblk m c 0 t) (iblk m c 1 t) (iblk m c 2 t) (iblk m c 3 t) (iblk m c 4 t)

/-- The same at a point given as a number. -/
def conN (c : Dev nD) (n : ℕ) : Vec F S256x768 .f32 := conAt m c ⟨n % 64, Nat.lt_of_lt_of_eq (Nat.mod_lt n (by decide)) N_0.symm⟩

/-- The sum of the contributions of experts `0 … e` to row block `b`, in this order. -/
def acc (c : Dev nD) (b : ℕ) : ℕ → Vec F S256x768 .f32
  | 0 => conN m c b
  | e + 1 => addf (acc c b e) (conN m c (8 * (e + 1) + b))

theorem conN_val (c : Dev nD) (t : Fin cfg0.N) : conN m c t.val = conAt m c t := by
  unfold conN
  refine congrArg _ (Fin.ext ?_)
  exact Nat.mod_eq_of_lt (Nat.lt_of_lt_of_eq t.isLt N_0)

/-- The scratch before point `n`: row block `b`, if its last point before `n` is expert `e`'s, holds the sum up to `e`. -/
def Inv (c : Dev nD) (n : ℕ) (f : Vec F S2048x768 .f32) : Prop :=
  ∀ (b : Fin 8) (e : ℕ), 8 * e + b.val < n → n ≤ 8 * (e + 1) + b.val → ∀ p, f (blk b p) = acc m c b.val e p

/-- Before the first point nothing is known of the scratch. -/
theorem inv_zero (c : Dev nD) (f : Vec F S2048x768 .f32) : Inv m c 0 f := fun _ _ h => absurd h (Nat.not_lt_zero _)

/-- The contribution of point `t` written where the sum of the earlier experts was: the description moves one point on. -/
theorem inv_step (c : Dev nD) (t : Fin cfg0.N) (f g : Vec F S2048x768 .f32) (hf : Inv m c t.val f) (b : Fin 8) (hb : b.val = t.val % 8)
    (hg : ∀ p, g (blk b p) = (if t.val / 8 = 0 then conAt m c t else addf (fun p => f (blk b p)) (conAt m c t)) p)
    (hk : ∀ b', b' ≠ b → ∀ p, g (blk b' p) = f (blk b' p)) : Inv m c (t.val + 1) g ∧ ∀ p, g (blk b p) = acc m c (t.val % 8) (t.val / 8) p := by
  have key : ∀ p, g (blk b p) = acc m c (t.val % 8) (t.val / 8) p := fun p => by
    rw [hg p]
    obtain h0 | ⟨e, he⟩ : t.val / 8 = 0 ∨ ∃ e, t.val / 8 = e + 1 := by
      cases h : t.val / 8 with
      | zero => exact Or.inl rfl
      | succ e => exact Or.inr ⟨e, rfl⟩
    · rw [if_pos h0, h0, ← conN_val, acc]
      exact congrFun (congrArg (conN m c) (by omega)) p
    · rw [if_neg (by omega), he, acc, ← conN_val, show 8 * (e + 1) + t.val % 8 = t.val by omega]
      refine congrArg (fun o : Vec F S256x768 .f32 => addf o (conN m c t.val) p) (funext fun q => ?_)
      rw [hf b e (by omega) (by omega) q, hb]
  refine ⟨fun b' e h h' p => ?_, key⟩
  by_cases hbb : b' = b
  · subst hbb
    rw [key p, show t.val / 8 = e by omega, hb]
  · rw [hk b' hbb p]
    have hne : b'.val ≠ t.val % 8 := fun h => hbb (Fin.ext (h.trans hb.symm))
    exact hf b' e (by omega) (by omega) p

/-! ## The proof data -/

/-- The output window is the one held to a predicate. -/
def fgt : Fin 6 → Bool := fun w => w == 5

/-- What the body leaves in the output window: at the last expert the finished sum, before it anything. -/
def Rl (c : Dev nD) : (w : Fin cfg0.W) → Fin cfg0.N → ((cfg0.win w).block.Idx → Elt F (cfg0.win w).elt) → Prop
  | 0, _, _ => True
  | 1, _, _ => True
  | 2, _, _ => True
  | 3, _, _ => True
  | 4, _, _ => True
  | 5, t, X => t.val / 8 = 7 → X = acc m c (t.val % 8) 7

/-- The proof data on core `c`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
  Φ n := iprop((∃ f : Vec F S2048x768 .f32, ⌜Inv m c n.val f⌝ ∗ owns (c : Thread nD τ) scM fullShare f) ∗ ∃ r, prngReg c r)
  q _ := fullShare
  owed _ := 0

theorem A_eq (c : Dev nD) (w : Fin cfg0.W) : (dats m 0 c).A w = V m c (Pipeline.arrRef spec0 w) := by dsimp only [dats]

/-- What the body is called with at point `t` … -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel fgt (Rl m c)).Finds 5 t Y⌝ ∗ owns (c : Thread nD τ) (st0_5 t) fullShare Y))
/-- … and what it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, ⌜Rl m c 5 t X⌝ ∗ owns (c : Thread nD τ) (st0_5 t) fullShare X))

/-- The body run at a point, whatever the expert: the scratch moves one point on, and at the last expert the output block is
    the finished sum. -/
theorem run_point (c : Dev nD) (t : Fin cfg0.N) (d7 : Vec F S256x768 .f32) (fs : Vec F S2048x768 .f32) (hfs : Inv m c t.val fs)
    (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare d7
        ∗ owns (c : Thread nD τ) scM fullShare fs
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t)
            ∗ ∃ Xs X : _, ⌜Inv m c (t.val + 1) Xs ∧ (t.val / 8 = 7 → X = acc m c (t.val % 8) 7)⌝
              ∗ owns (c : Thread nD τ) scM fullShare Xs
              ∗ owns (c : Thread nD τ) (st0_5 t) fullShare X) -∗ K ⟨⟩))
      ⊢ wp frame (wpE (defs₀ (F := F)) Variants.none c none) Set.univ (bodyAt0 t) K := by
  have step := inv_step m c t fs
  by_cases h0 : t.val / 8 = 0
  · refine BIBase.Entails.trans ?_ (run_first c (grid0.coords t) ((cond1_iff t).mpr h0) (fun h => (cond2_iff t).mp h h0)
      (fun h => absurd ((cond3_iff t).mp h) (by omega)) _ _ _ _ _ _ _ _ _ _ _ _ (iblk m c 0 t) (iblk m c 1 t) (iblk m c 2 t) (iblk m c 3 t) (iblk m c 4 t) d7 fs K)
    iintro ⟨H2, H3, H4, H5, H6, H7, HS, Hk⟩
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H2, H3, H4, H5, H6, ⟨%Xs, %hX, HS, H7⟩⟩
    iapply Hk
    isplitl [H2]; · iexact H2
    isplitl [H3]; · iexact H3
    isplitl [H4]; · iexact H4
    isplitl [H5]; · iexact H5
    isplitl [H6]; · iexact H6
    iexists Xs, d7
    isplitr
    · ipureintro
      refine ⟨(step Xs hfs ((grid0.coords t) 1) (coords_b t) (fun p => ?_) hX.2).1, fun h => absurd h (by omega)⟩
      rw [if_pos h0]; exact hX.1 p
    isplitl [HS]; · iexact HS
    iexact H7
  by_cases h7 : t.val / 8 = 7
  · refine BIBase.Entails.trans ?_ (run_last c (grid0.coords t) (fun h => h0 ((cond1_iff t).mp h)) ((cond2_iff t).mpr h0)
      ((cond3_iff t).mpr h7) _ _ _ _ _ _ _ _ _ _ _ _ (iblk m c 0 t) (iblk m c 1 t) (iblk m c 2 t) (iblk m c 3 t) (iblk m c 4 t) d7 fs K)
    iintro ⟨H2, H3, H4, H5, H6, H7, HS, Hk⟩
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H2, H3, H4, H5, H6, ⟨%Xs, %hX, HS, H7⟩⟩
    iapply Hk
    isplitl [H2]; · iexact H2
    isplitl [H3]; · iexact H3
    isplitl [H4]; · iexact H4
    isplitl [H5]; · iexact H5
    isplitl [H6]; · iexact H6
    iexists Xs, _
    isplitr; swap
    · isplitl [HS]; · iexact HS
      iexact H7
    ipureintro
    have h := step Xs hfs ((grid0.coords t) 1) (coords_b t) (fun p => by rw [if_neg h0]; exact hX.1 p) hX.2
    exact ⟨h.1, fun _ => funext fun p => (h.2 p).trans (by rw [h7])⟩
  · refine BIBase.Entails.trans ?_ (run_middle c (grid0.coords t) (fun h => h0 ((cond1_iff t).mp h)) ((cond2_iff t).mpr h0)
      (fun h => h7 ((cond3_iff t).mp h)) _ _ _ _ _ _ _ _ _ _ _ _ (iblk m c 0 t) (iblk m c 1 t) (iblk m c 2 t) (iblk m c 3 t) (iblk m c 4 t) d7 fs K)
    iintro ⟨H2, H3, H4, H5, H6, H7, HS, Hk⟩
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H2, H3, H4, H5, H6, ⟨%Xs, %hX, HS, H7⟩⟩
    iapply Hk
    isplitl [H2]; · iexact H2
    isplitl [H3]; · iexact H3
    isplitl [H4]; · iexact H4
    isplitl [H5]; · iexact H5
    isplitl [H6]; · iexact H6
    iexists Xs, d7
    isplitr
    · ipureintro
      refine ⟨(step Xs hfs ((grid0.coords t) 1) (coords_b t) (fun p => ?_) hX.2).1, fun h => absurd h h7⟩
      rw [if_neg h0]; exact hX.1 p
    isplitl [HS]; · iexact HS
    iexact H7

/-- The body at the point: the invariant opened, the body run, the invariant closed one point later. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl)]
  rw [show (dats m 0 c).Φ t.castSucc = iprop((∃ f : Vec F S2048x768 .f32, ⌜Inv m c t.val f⌝ ∗ owns (c : Thread nD τ) scM fullShare f) ∗ ∃ r, prngReg c r) from rfl,
    show (dats m 0 c).Φ t.succ = iprop((∃ f : Vec F S2048x768 .f32, ⌜Inv m c (t.val + 1) f⌝ ∗ owns (c : Thread nD τ) scM fullShare f) ∗ ∃ r, prngReg c r) from rfl]
  iintro ⟨⟨⟨%fs, %hfs, HS⟩, Hp⟩, HO, ⟨%d0, H0⟩, ⟨%d1, H1⟩, ⟨%d2, H2⟩, ⟨%d3, H3⟩, ⟨%d4, H4⟩, ⟨%Y, %hY, H5⟩⟩
  iapply (run_point m c t Y fs hfs _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, ⟨%Xs, %X, %hX, HS, H5⟩⟩
  isplitl [HS Hp]
  · isplitl [HS]
    · iexists Xs; isplitr; · ipureintro; exact hX.1
      iexact HS
    iexact Hp
  isplitl [HO]; · iexact HO
  isplitl [H0]; · iexact H0
  isplitl [H1]; · iexact H1
  isplitl [H2]; · iexact H2
  isplitl [H3]; · iexact H3
  isplitl [H4]; · iexact H4
  iexists X; isplitr; · ipureintro; exact hX.2
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation, the output window held to its predicate. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

end Cert.KernelIdeal.Hand

end
-- ==== Proof.Launch.lean ====
/-
  The launch. The pipeline's output array is described by a relation (what it may hold after the last write-back), so
  the host line after the region runs from some contents that meet that relation, and the result buffer is what that line
  makes of them.
-/
module

public import proofs.«01_k».proof.Proof.Data
public import Idealize.ShloMosaic.Lib.Pipeline.FrameSuffix
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data with the output window held to its predicate. -/
def rdat (c : Dev nD) : RDat τ (Elt F) Unit ℕ (UR sig nD τ) ℕ cfg0 c := (dats m 0 c).toRRel fgt (Rl m c)

/-- The buffers after the host line that follows the region, from array contents `A` at the region's exit. -/
def endAt (c : Dev nD) (A : (w : Fin cfg0.W) → Buf (Elt F) ((spec0 w).arr.view.loc (c : Thread nD τ))) (b : Ref sig .tc) :
    Buf (Elt F) ((c : Thread nD τ).loc b) :=
  StableHlo.after (List.flatten [hostOps1]) (withArrays spec0 c (V0 m c) A) (Proc.devRef .tc b)

/-- What a run ends in on core `c`: the arrays at contents the relation allows, and every other unscoped buffer as the host line
    leaves it, from array contents the relation allows. -/
def EndsAt (c : Dev nD) (s : MemSt nD τ sig (Elt F)) : Prop :=
  (∀ w, (rdat m c).ArrAt w cfg0.N (s.mem ((spec0 w).arr.view.loc (c : Thread nD τ))))
    ∧ ∃ A : (w : Fin cfg0.W) → Buf (Elt F) ((spec0 w).arr.view.loc (c : Thread nD τ)),
        (∀ w, (rdat m c).ArrAt w cfg0.N (A w)) ∧ ∀ b ∈ restRefsP sig Prefetch.none spec0, s.mem ((c : Thread nD τ).loc b) = endAt m c A b

/-- The arrays after the last write-back, as one family of contents the relation allows. -/
theorem arrays_open (c : Dev nD) : ((rdat m c).arraysAt cfg0.N : sProp 𝕄)
    ⊢ iprop(∃ A, ⌜∀ w, (rdat m c).ArrAt w cfg0.N (A w)⌝ ∗ (rdat m c).arrays A) := by
  unfold RDat.arraysAt RDat.arrays
  refine (BI.bigSep_exists_pi Finset.univ _).trans ?_
  iintro ⟨%A, Ha⟩
  ihave Hb := (BI.bigSep_pure_sep Finset.univ (fun w => (rdat m c).ArrAt w cfg0.N (A w)) _) $$ Ha
  icases Hb with ⟨%hA, Hb⟩
  iexists A
  isplitr; · ipureintro; exact fun w => hA w (Finset.mem_univ w)
  iexact Hb

/-- And back. -/
theorem arrays_close (c : Dev nD) (A) (hA : ∀ w, (rdat m c).ArrAt w cfg0.N (A w)) :
    ((rdat m c).arrays A : sProp 𝕄) ⊢ (rdat m c).arraysAt cfg0.N := by
  unfold RDat.arraysAt RDat.arrays
  refine BI.bigSep_mono fun w _ => ?_
  show (_ : sProp 𝕄) ⊢ iprop(∃ G, ⌜(rdat m c).ArrAt w cfg0.N G⌝
    ∗ (cfg0.win w).arr.view.loc (c : Thread nD τ) ↦[(cfg0.win w).arr.view.set]{(rdat m c).share w} G)
  iintro H
  iexists (A w)
  isplitr; · ipureintro; exact hA w
  iexact H

/-- At the region's entry the scratch holds anything: the invariant before the first point. -/
theorem phi_first (c : Dev nD) : (ΦA spec0 c : sProp 𝕄) ⊢ (rdat m c).Φ 0 := by
  show (ΦA spec0 c : sProp 𝕄) ⊢ iprop((∃ f : Vec F S2048x768 .f32, ⌜Inv m c 0 f⌝ ∗ owns (c : Thread nD τ) scM fullShare f) ∗ ∃ r, prngReg c r)
  unfold ΦA
  rw [scopedRest0_eq]; simp only [scM, owns_whole]
  iintro ⟨⟨%f, HS⟩, Hp⟩
  isplitl [HS]
  · iexists f; isplitr; · ipureintro; exact inv_zero m c f
    iexact HS
  iexact Hp

/-- At its exit the scratch is given back at whatever it holds. -/
theorem phi_last (c : Dev nD) : ((rdat m c).Φ (Fin.last cfg0.N) : sProp 𝕄) ⊢ ΦA spec0 c := by
  show (iprop((∃ f : Vec F S2048x768 .f32, ⌜Inv m c cfg0.N f⌝ ∗ owns (c : Thread nD τ) scM fullShare f) ∗ ∃ r, prngReg c r) : sProp 𝕄) ⊢ _
  unfold ΦA
  rw [scopedRest0_eq]; simp only [scM, owns_whole]
  iintro ⟨⟨%f, -, HS⟩, Hp⟩
  isplitl [HS]; · iexists f; iexact HS
  iexact Hp

/-- The pipelines of the module, none of them prefetching anything. -/
abbrev pcs0 : Fin 1 → PCfg sig Λ₀ (Elt F) := fun q => (cfgs q).toPCfg (Val := Elt F)

theorem share_eq (c : Dev nD) (w : Fin cfg0.W) : (rdat m c).share w = fullShare := (dats m 0 c).share_full (fun _ => rfl) w

set_option backward.isDefEq.respectTransparency.types false in
/-- The run: every weakly fair execution of @main terminates, in a state that `EndsAt` describes on every core, every counter
    at zero. -/
theorem run_main : θ_run defs (onTc (τ := τ) (main (F := F))) (s₀ m ρ)
    (fun r => (∀ c, EndsAt m c r.2) ∧ r.2.sem = fun _ => 0) := by
  classical
  have hq : ∀ c (w : Fin cfg0.W), (cfg0.spec w).isOut = false → (rdat m c).q w = shareOf cfg0.spec w := fun c w hw =>
    (rdat m c).q_eq_shareOf_of_share_full launch0.win.arr_inj (share_eq m c) w hw
  let kit := launch0.toP (Val := Elt F).to₀
  exact RDat.θ_run_region_pf_tail_quiescent (pcs0 (F := F)) (fun q => (cfgs q).toPCfg_adm)
    (RDat.familyOf pcs0 (fun q => (cfgs q).toPCfg_adm) 0 (rdat m)) () (kit.cellOf_inj _) 0 kit.win (OwnSemFacts.none cfg0.spec) kit.pre emb₁ defs₀
    Variants.none m ρ main (fun _ => chain ([hostOps1].map StableHlo.seq))
    (fun c => by rw [RDat.familyOf_self]; exact (body_obligation m c).toRRel)
    kit.block_pos kit.arr_whole kit.stage_whole (fun c t => by rw [RDat.familyOf_self]; rfl)
    (G := fun _ => iprop(emp))
    (u₀ := initOf (cells (pin pcs0 fun q => (cfgs q).toPCfg_adm) (kit.cellOf_inj _)) (launchToks (pin pcs0 fun q => (cfgs q).toPCfg_adm) (kit.cellOf_inj _)))
    (hu₀ := by
      iintro Hu; imodintro
      isplitl [Hu]
      · iapply (show (ownU _ : sProp 𝕄) ⊢ BI.own (emb₁ (initOf (cells (pin pcs0 fun q => (cfgs q).toPCfg_adm) (kit.cellOf_inj _))
          (launchToks (pin pcs0 fun q => (cfgs q).toPCfg_adm) (kit.cellOf_inj _)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [RDat.familyOf_self]
      exact (rdat m c).arrays_split_shared kit.sharedIn kit.arr_whole (hq c) (V m c) _ (A_eq m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ A, ⌜∀ w, (rdat m c).ArrAt w cfg0.N (A w)⌝
      ∗ unscopedRestP (Ix := Unit) (Name := ℕ) (U := UR sig nD τ) (Lvl := ℕ) Prefetch.none spec0 c (endAt m c A)))
    (hX := fun c => by
      iintro ⟨HU, -, -, Hp, -⟩; imodintro
      isplitl [Hp]; · iexists _; iexact Hp
      iexact HU)
    (hin := fun c => by
      rw [RDat.familyOf_self]
      exact (show _ ⊢ ΦA spec0 c by
        unfold ΦA; iintro ⟨Hp, -, Hr⟩
        isplitl [Hr] <;> iassumption).trans (phi_first m c))
    (hout := fun c => by
      rw [RDat.familyOf_self]
      exact (phi_last m c).trans (by
        rw [ownSems0_none]; unfold ΦA
        iintro ⟨Hr, Hp⟩
        isplitl [Hp]; · iexact Hp
        isplitr; · iempintro
        iexact Hr))
    (htail := fun c Q' => by
      rw [RDat.familyOf_self]
      iintro ⟨Hk, Hb, Ha, HZ⟩
      ihave Ha' := (arrays_open m c) $$ Ha
      icases Ha' with ⟨%A, %hA, Ha⟩
      have hB : (rdat m c).arrays A = arrBufs spec0 c (fun b => withArrays spec0 c (V0 m c) A (Proc.devRef .tc b)) :=
        ((rdat m c).arrBufs_eq_arrays kit.sharedIn kit.arr_whole (hq c) _ A fun w =>
          (withArrays_arr_shared spec0 c (V0 m c) A ((rdat m c).ArrAt_sharedIn kit.sharedIn (V0 m c) (A_eq m c) cfg0.N A hA) w).symm).symm
      iapply (tail_seqs_bufs_b pcs0 defs₀ Variants.none Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]
        · iapply (arrays_close m c A hA)
          iapply (Entails.of_eq hB.symm)
          iexact Ha2
        iexists A; isplitr; · ipureintro; exact hA
        iexact Hu
      isplitl [Hb]; · iexact Hb
      isplitl [Ha]; · iapply (Entails.of_eq hB); iexact Ha
      iexact HZ)
    (QY := fun c s => ∃ A : (w : Fin cfg0.W) → Buf (Elt F) ((spec0 w).arr.view.loc (c : Thread nD τ)),
        (∀ w, (rdat m c).ArrAt w cfg0.N (A w)) ∧ ∀ b ∈ restRefsP sig Prefetch.none spec0, s.mem ((c : Thread nD τ).loc b) = endAt m c A b)
    (hY := fun c s' => by
      iintro ⟨-, HZ, HSI⟩
      icases HZ with ⟨%A, %hA, HZ⟩
      unfold unscopedRestP
      ihave HZ' := (pointsTo_read_all (restRefsP sig Prefetch.none spec0) (fun b => (c : Thread nD τ).loc b) (endAt m c A) s') $$ [HZ HSI]
      · isplitl [HZ] <;> iassumption
      icases HZ' with ⟨%hZ, HSI⟩
      imodintro
      isplitr
      · ipureintro; exact ⟨A, hA, hZ⟩
      iexact HSI)
    (hQ := fun s h hz => ⟨fun c => ⟨fun w => by have := (h c).1 w; rw [RDat.familyOf_self] at this; exact this, (h c).2.2⟩, hz⟩)

end Cert.KernelIdeal.Hand

end
-- ==== Proof.Value.lean ====
/-
  What the result buffer holds at the end: the finished sum of every row block, read through the host's reshape.
-/
module

public import proofs.«01_k».proof.Proof.Launch
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Rounds
open Idealize.ShloMosaic.Pipeline

variable {F : FTy → Type} [FloatOps F] [Named F]

variable (m : (ℓ : Loc nD τ sig) → Buf (Elt F) ℓ) (ρ : Dev nD → PrngReg)

/-- The output window's block at point `t`, by its first row and column block. -/
theorem index5_0 : ∀ t : Fin cfg0.N, win0_5.index t (0 : Fin 2) = t.val % 8 := by decide +kernel
theorem index5_1 : ∀ t : Fin cfg0.N, win0_5.index t (1 : Fin 2) = 0 := by decide +kernel

/-- Element `p` of the output block at point `t` is element `p` of row block `t % 8` of the array. -/
theorem blk5_emb (t : Fin cfg0.N) (b : Fin 8) (hb : b.val = t.val % 8) (p : S256x768.Idx) :
    ((cfg0.win 5).blk t).view.emb p = blk b p := by
  funext a
  apply Fin.ext
  blk_simp
  revert a
  refine Fin.forall_fin_two.mpr ⟨?_, ?_⟩
  · show win0_5.index t (0 : Fin 2) * 256 + (p 0).val = 256 * b.val + (p 0).val
    rw [index5_0, hb]; omega
  · show win0_5.index t (1 : Fin 2) * 768 + (p 1).val = (p 1).val
    rw [index5_1]; omega

/-- An element of another row block is not in it. -/
theorem blk5_not_mem (t : Fin cfg0.N) (b : Fin 8) (hb : b.val ≠ t.val % 8) (p : S256x768.Idx) :
    blk b p ∉ ((cfg0.win 5).blk t).view.set := by
  intro h
  mem_blk at h
  have h0 := h.1
  rw [show ((blk b p) 0).val = 256 * b.val + (p 0).val from rfl, index5_0] at h0
  have : (p 0).val < 256 := (p 0).isLt
  omega

/-- A write-back at point `t` leaves the written block's element `p` at element `p` of row block `t % 8` … -/
theorem write5_mem (c : Dev nD) (t : Fin cfg0.N) (b : Fin 8) (hb : b.val = t.val % 8) (G : Vec F S2048x768 .f32) (X : Vec F S256x768 .f32)
    (p : S256x768.Idx) :
    (((cfg0.win 5).blk t).view.write (Elt F) G ((cfg0.win 5).cut (cfg0.grid.coords t) X) Finset.univ : Vec F S2048x768 .f32) (blk b p) = X p := by
  rw [← blk5_emb t b hb p]
  exact View.write_emb_of_mem _ _ (Finset.mem_univ _)

/-- … and every other row block alone. -/
theorem write5_not_mem (c : Dev nD) (t : Fin cfg0.N) (b : Fin 8) (hb : b.val ≠ t.val % 8) (G : Vec F S2048x768 .f32) (X : Vec F S256x768 .f32)
    (p : S256x768.Idx) :
    (((cfg0.win 5).blk t).view.write (Elt F) G ((cfg0.win 5).cut (cfg0.grid.coords t) X) Finset.univ : Vec F S2048x768 .f32) (blk b p) = G (blk b p) :=
  View.write_of_not_mem _ _ _ (by rw [View.setOn_univ]; exact blk5_not_mem t b hb p)

/-- Once point `56 + b` has been written back, row block `b` of the output array holds the finished sum, and the later points
    leave it. -/
theorem arr5 (c : Dev nD) (b : Fin 8) (p : S256x768.Idx) : ∀ n, 57 + b.val ≤ n → n ≤ 64 → ∀ G, (rdat m c).ArrAt 5 n G →
    (G : Vec F S2048x768 .f32) (blk b p) = acc m c b.val 7 p := by
  intro n
  induction n with
  | zero => intro h; omega
  | succ n ih =>
    intro h h' G hG
    have hn : n < cfg0.N := Nat.lt_of_lt_of_eq (by omega) N_0.symm
    have hs := congrFun ((rdat m c).ArrAt_succ 5 ⟨n, hn⟩) G
    rw [if_pos (flush0_5 _)] at hs
    obtain ⟨G₀, X, hG₀, hX, he⟩ := (show (rdat m c).ArrStep 5 ⟨n, hn⟩ ((rdat m c).ArrAt 5 n) G from hs ▸ hG)
    have hR : n / 8 = 7 → X = acc m c (n % 8) 7 := (dats m 0 c).toRRel_leaves (w := 5) rfl hX
    refine (congrFun he (blk b p)).trans ?_
    by_cases hb : b.val = n % 8
    · refine (write5_mem c ⟨n, hn⟩ b hb G₀ X p).trans ?_
      rw [hR (by omega), hb]
    · exact (write5_not_mem c ⟨n, hn⟩ b hb G₀ X p).trans (ih (by omega) (by omega) G₀ hG₀)

/-- The array the kernel writes: row `r` is row `r % 256` of block `r / 256`'s finished sum. -/
def result (c : Dev nD) : Vec F S2048x768 .f32 := fun i =>
  acc m c ((i 0).val / 256) 7 (ix2 ⟨(i 0).val % 256, Nat.mod_lt _ (by decide)⟩ (i 1))

/-- Every array the relation allows at the end is that one. -/
theorem arr5_eq (c : Dev nD) (G) (hG : (rdat m c).ArrAt 5 cfg0.N G) : (G : Vec F S2048x768 .f32) = result m c := by
  funext i
  have hi : (i 0).val < 2048 := (i 0).isLt
  have h := arr5 m c ⟨(i 0).val / 256, by omega⟩ (ix2 ⟨(i 0).val % 256, Nat.mod_lt _ (by decide)⟩ (i 1)) 64 (by show 57 + (i 0).val / 256 ≤ 64; omega) le_rfl G
    (N_0 ▸ hG)
  refine Eq.trans (congrArg (G : Vec F S2048x768 .f32) ?_) h
  funext a
  revert a
  refine Fin.forall_fin_two.mpr ⟨Fin.ext ?_, rfl⟩
  show (i 0).val = 256 * ((i 0).val / 256) + (i 0).val % 256
  omega

/-- The result buffer at the end: the array recast to the result's shape. -/
theorem end_result (c : Dev nD) (A) (hA : ∀ w, (rdat m c).ArrAt w cfg0.N (A w)) :
    endAt m c A main_v2 = shapeCast S1x2048x768 (result m c) shapeCasts_S2048x768_S1x2048x768 := by
  have h5 : withArrays spec0 c (V0 m c) A (Proc.devRef .tc main_v1) = A 5 := withArrays_arr spec0 launch0.win.arr_inj c (V0 m c) A 5
  unfold endAt
  simp only [List.flatten_cons, List.flatten_nil, List.append_nil, StableHlo.after_cons, StableHlo.after_nil]
  rw [StableHlo.reshape_result, h5]
  exact congrArg (fun G : Vec F S2048x768 .f32 => shapeCast S1x2048x768 G shapeCasts_S2048x768_S1x2048x768) (arr5_eq m c (A 5) (hA 5))

/-- The first argument's buffer at the end: no line writes it and no window stages it. -/
theorem end_arg0 (c : Dev nD) (A) : endAt m c A main_arg0 = m ((c : Thread nD τ).loc main_arg0) := by
  unfold endAt
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    withArrays_of_ne _ c (V0 m c) _ main_arg0 (by exact (by decide : ∀ w, arrRef spec0 w ≠ main_arg0))]
  exact V_main_arg0 m c

/-- What a run's end says of the arguments: each as launched. -/
theorem args_of (c : Dev nD) (s : MemSt nD τ sig (Elt F)) (h : EndsAt m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4) := by
  obtain ⟨hw, A, hA, hr⟩ := h
  have hin : ∀ w : Fin cfg0.W, (cfg0.win w).isOut = false → s.mem ((spec0 w).arr.view.loc (c : Thread nD τ)) = V m c (arrRef spec0 w) := fun w hw' => by
    have h := hw w
    rw [(rdat m c).ArrAt_in w hw'] at h
    exact h.trans (A_eq m c w)
  exact ⟨(hr main_arg0 (by decide)).trans (end_arg0 m c A), (hin 1 rfl).trans (V_main_arg1 m c), (hin 2 rfl).trans (V_main_arg2 m c),
    (hin 3 rfl).trans (V_main_arg3 m c), (hin 4 rfl).trans (V_main_arg4 m c)⟩

/-- What a run's end says of the result. -/
theorem result_of (c : Dev nD) (s : MemSt nD τ sig (Elt F)) (h : EndsAt m c s) :
    s.mem ((c : Thread nD τ).loc main_v2) = shapeCast S1x2048x768 (result m c) shapeCasts_S2048x768_S1x2048x768 := by
  obtain ⟨-, A, hA, hr⟩ := h
  exact (hr main_v2 (by decide)).trans (end_result m c A hA)

end Cert.KernelIdeal.Hand

end
-- ==== Proof.KernelArgs.lean ====
/-
  What the arguments' buffers hold at the end of the kernel as the compiler printed it: what they held at the start.
-/
module

public import proofs.«01_k».proof.Proof.KernelLaunch
public import Idealize.ShloMosaic.Lib.Pipeline.ValueKit.Geometry

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.Sem
open Idealize.ShloMosaic.Rounds
open Idealize.ShloMosaic.Pipeline

variable {F : FTy → Type} [FloatOps F]

variable (m : (ℓ : Loc nD τ sig) → Buf (Elt F) ℓ) (ρ : Dev nD → PrngReg)

/-- The first argument's buffer at the end: no line writes it and no window stages it. -/
theorem end_arg0 (c : Dev nD) (A) : endAt m c A main_arg0 = m ((c : Thread nD τ).loc main_arg0) := by
  unfold endAt
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    withArrays_of_ne _ c (V0 m c) _ main_arg0 (by exact (by decide : ∀ w, arrRef spec0 w ≠ main_arg0))]
  exact V_main_arg0 m c

/-- What a run's end says of the arguments: each as launched. -/
theorem args_of (c : Dev nD) (s : MemSt nD τ sig (Elt F)) (h : EndsAt m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4) := by
  obtain ⟨hw, A, hA, hr⟩ := h
  have hin : ∀ w : Fin cfg0.W, (cfg0.win w).isOut = false → s.mem ((spec0 w).arr.view.loc (c : Thread nD τ)) = V m c (arrRef spec0 w) := fun w hw' => by
    have h := hw w
    rw [(rdat m c).ArrAt_in w hw'] at h
    exact h.trans (A_eq m c w)
  exact ⟨(hr main_arg0 (by decide)).trans (end_arg0 m c A), (hin 1 rfl).trans (V_main_arg1 m c), (hin 2 rfl).trans (V_main_arg2 m c),
    (hin 3 rfl).trans (V_main_arg3 m c), (hin 4 rfl).trans (V_main_arg4 m c)⟩

end Cert.Kernel.Hand

end
-- ==== Proof.Frames.lean ====
/-
  The frame claims and the named constant: each program runs to its end, leaves its arguments as they were and every
  semaphore counter at zero; and the constant the idealized kernel names is the one the kernel states.
-/
module

public import proofs.«01_k».proof.Defs
public import proofs.«01_k».proof.Proof.Value
public import proofs.«01_k».proof.Proof.KernelArgs
public import proofs.«01_k».proof.Proof.Gen.ReferenceIdeal.Run
public import proofs.«01_k».proof.Proof.Gen.Pre_finite
public import Idealize.ShloMosaic.Lib.Quiescent

@[expose] public section

noncomputable section

namespace Cert.Claims

open Idealize.ShloMosaic Idealize.ShloMosaic.TcCoe Idealize.SL.Sem

/-- The kernel as printed: it ends, its arguments unchanged and its counters at zero. -/
theorem frame_kernel : Cert.quiescent_Kernel := fun m ρ _ =>
  (θ_run Cert.Kernel.defs _ _).mono (fun r h => ⟨fun c => Cert.Kernel.Hand.args_of m c r.2 (h.1 c), h.2⟩)
    (Cert.Kernel.Hand.run_main (F := Bits) m ρ)

/-- The idealized kernel, from any memory: the same. -/
theorem frame_kernel_ideal : Cert.quiescent_KernelIdeal := fun m ρ _ =>
  (θ_run Cert.KernelIdeal.defs _ _).mono (fun r h => ⟨fun c => Cert.KernelIdeal.Hand.args_of m c r.2 (h.1 c), h.2⟩)
    (Cert.KernelIdeal.Hand.run_main (F := Ideal) m ρ)

/-- The same, of the memories with finite tokens and router weights. -/
theorem frame_kernel_ideal_finite : Cert.quiescent_KernelIdeal_pre_finite := fun m ρ _ => frame_kernel_ideal m ρ trivial

/-- The reference, from any memory: the same. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of the memories with finite tokens and router weights. -/
theorem frame_reference_finite : Cert.quiescent_ReferenceIdeal_pre_finite := fun m ρ _ => frame_reference m ρ trivial

/-- The mask literal −1e30 of the kernel is named `mask` in the idealized kernel, where it denotes −∞. -/
theorem named_mask : Cert.preserves_Kernel_KernelIdeal :=
  IdealRules.named_const.statement Cert.KernelIdeal.κ "mask" .f32 0xF149F2CA#32 ⊥ rfl

end Cert.Claims

end
-- ==== Proof.Top.lean ====
/-
  The two greatest of eight extended reals, and what is read off them: the facts of the routing that mention no program.
-/
module

public import Idealize.ShloMosaic.PureOps.Ideal
public import Idealize.ShloMosaic.Lib.SortPrefix
public import Idealize.ShloMosaic.PureOps.Reduce

@[expose] public section

noncomputable section

namespace Cert.Routing

open Idealize.ShloMosaic

/-- `a` is the first place of the greatest of `L`, and `b` the first place of the greatest of the others. -/
structure IsTop (L : Fin 8 → EReal) (a b : Fin 8) : Prop where
  le_a : ∀ j, L j ≤ L a
  first_a : ∀ j, L j = L a → a ≤ j
  ne : b ≠ a
  le_b : ∀ j, j ≠ a → L j ≤ L b
  first_b : ∀ j, j ≠ a → L j = L b → b ≤ j

/-- Among the places of a nonempty set, there is a first one where `L` is greatest. -/
theorem exists_first (L : Fin 8 → EReal) (S : Finset (Fin 8)) (hS : S.Nonempty) :
    ∃ a ∈ S, (∀ j ∈ S, L j ≤ L a) ∧ ∀ j ∈ S, L j = L a → a ≤ j := by
  obtain ⟨m, hm, hmax⟩ := S.exists_max_image L hS
  obtain ⟨a, ha, hmin⟩ := (S.filter fun j => L j = L m).exists_min_image id ⟨m, Finset.mem_filter.mpr ⟨hm, rfl⟩⟩
  obtain ⟨haS, hae⟩ := Finset.mem_filter.mp ha
  exact ⟨a, haS, fun j hj => hae ▸ hmax j hj, fun j hj he => hmin j (Finset.mem_filter.mpr ⟨hj, he.trans hae⟩)⟩

/-- Every eight extended reals have such places. -/
theorem exists_top (L : Fin 8 → EReal) : ∃ a b, IsTop L a b := by
  obtain ⟨a, -, ha, ha'⟩ := exists_first L Finset.univ ⟨0, Finset.mem_univ _⟩
  obtain ⟨b, hb, hb', hb''⟩ := exists_first L (Finset.univ.erase a) (by
    by_cases h : a = 0
    · exact ⟨1, Finset.mem_erase.mpr ⟨by rw [h]; decide, Finset.mem_univ _⟩⟩
    · exact ⟨0, Finset.mem_erase.mpr ⟨fun e => h e.symm, Finset.mem_univ _⟩⟩)
  exact ⟨a, b, fun j => ha j (Finset.mem_univ _), fun j => ha' j (Finset.mem_univ _), Finset.ne_of_mem_erase hb,
    fun j hj => hb' j (Finset.mem_erase.mpr ⟨hj, Finset.mem_univ _⟩), fun j hj => hb'' j (Finset.mem_erase.mpr ⟨hj, Finset.mem_univ _⟩)⟩

/-- The maximum of `L` taken from −∞ is its greatest entry. -/
theorem fold_max_eq (L : Fin 8 → EReal) (a : Fin 8) (h : ∀ j, L j ≤ L a) : (Finset.univ : Finset (Fin 8)).fold max ⊥ L = L a :=
  le_antisymm ((Finset.fold_max_le _).mpr ⟨bot_le, fun j _ => h j⟩) ((Finset.le_fold_max _).mpr (Or.inr ⟨a, Finset.mem_univ _, le_rfl⟩))

/-- The signed minimum over the eight places, of the place itself where `p` holds and of 8 elsewhere, is the first place
    where `p` holds. -/
theorem fold_minsi_eq (p : Fin 8 → Prop) [DecidablePred p] (a : Fin 8) (ha : p a) (hf : ∀ j, p j → a ≤ j) :
    (Finset.univ : Finset (Fin 8)).fold IntOp.minsi 2147483647#32 (fun j => if p j then BitVec.ofNat 32 j.val else 8#32) = BitVec.ofNat 32 a.val := by
  have key : ∀ q0 q1 q2 q3 q4 q5 q6 q7 : Bool, ∀ a : Fin 8, (![q0, q1, q2, q3, q4, q5, q6, q7] a = true) →
      (∀ j, ![q0, q1, q2, q3, q4, q5, q6, q7] j = true → a ≤ j) →
      (Finset.univ : Finset (Fin 8)).fold IntOp.minsi 2147483647#32
        (fun j => if ![q0, q1, q2, q3, q4, q5, q6, q7] j = true then BitVec.ofNat 32 j.val else 8#32) = BitVec.ofNat 32 a.val := by
    decide +kernel
  have hq : ∀ j, (![decide (p 0), decide (p 1), decide (p 2), decide (p 3), decide (p 4), decide (p 5), decide (p 6), decide (p 7)] j = true) = p j := by
    intro j
    fin_cases j <;> simp
  have := key (decide (p 0)) (decide (p 1)) (decide (p 2)) (decide (p 3)) (decide (p 4)) (decide (p 5)) (decide (p 6)) (decide (p 7)) a
  simp only [hq] at this
  exact this ha hf

/-- The greatest entry once the first greatest is replaced by −∞ is the second greatest. -/
theorem fold_max_masked (L : Fin 8 → EReal) (a b : Fin 8) (h : IsTop L a b) :
    (Finset.univ : Finset (Fin 8)).fold max ⊥ (fun j => if j = a then ⊥ else L j) = L b := by
  have := fold_max_eq (fun j => if j = a then ⊥ else L j) b (fun j => by
    show (if j = a then ⊥ else L j) ≤ (if b = a then ⊥ else L b)
    rw [if_neg h.ne]
    split
    · exact bot_le
    · exact h.le_b j ‹_›)
  rw [this]
  exact if_neg h.ne

/-- A place of the masked row holds the second greatest exactly where the row does, away from the first. -/
theorem masked_eq (L : Fin 8 → EReal) (a b j : Fin 8) (hb : L b ≠ ⊥) : (if j = a then ⊥ else L j) = L b ↔ j ≠ a ∧ L j = L b := by
  by_cases h : j = a
  · simp only [h, if_true, ne_eq, not_true_eq_false, false_and, iff_false]
    exact fun e => hb e.symm
  · simp [h]

/-- Sorting the positions stably, the greater first, is sorting them by the greater first and then by position. -/
theorem sorted_refined (L : Fin 8 → EReal) :
    sortedFrom (fun k k' : Fin 8 => decide (L k' < L k)) = sortedFrom (fun k k' : Fin 8 => decide (L k' < L k) || (decide (L k = L k') && decide (k < k'))) := by
  have h : ∀ l : List (Fin 8), l.Pairwise (· < ·) →
      stableSort (fun k k' : Fin 8 => decide (L k' < L k)) l
        = stableSort (fun k k' : Fin 8 => decide (L k' < L k) || (decide (L k = L k') && decide (k < k'))) l := by
    intro l
    induction l with
    | nil => intro _; rfl
    | cons a l ih =>
      intro hl
      rw [List.pairwise_cons] at hl
      unfold stableSort
      rw [ih hl.2]
      refine insertBefore_congr _ _ a _ fun b hb => ?_
      have hab : a < b := hl.1 b ((perm_stableSort _ l).mem_iff.mp hb)
      rw [decide_eq_false (not_lt.mpr hab.le), Bool.and_false, Bool.or_false]
  funext k
  unfold sortedFrom
  rw [List.get_of_eq (show sortPositions 8 _ = sortPositions 8 _ from h _ (by decide))]
  rfl

/-- The stable sort puts the first greatest at place 0 and the second at place 1. -/
theorem sorted_top (L : Fin 8 → EReal) (a b : Fin 8) (h : IsTop L a b) :
    sortedFrom (fun k k' : Fin 8 => decide (L k' < L k)) 0 = a ∧ sortedFrom (fun k k' : Fin 8 => decide (L k' < L k)) 1 = b := by
  rw [sorted_refined]
  have hB : StrictTotalBefore (fun k k' : Fin 8 => decide (L k' < L k) || (decide (L k = L k') && decide (k < k'))) :=
    StrictTotalBefore.of_key_then_position (fun x y : EReal => decide (y < x)) L (fun x => by simp)
      (fun x y z hxy hyz => by simp only [decide_eq_true_eq] at *; exact hyz.trans hxy)
      (fun x y => by simp only [decide_eq_true_eq]; rcases lt_trichotomy x y with h | h | h <;> simp [h])
  have hpre := hB.sortedFrom_eq_of_prefix (k := 2) (by decide) ![a, b]
    (by
      intro i j hij
      fin_cases i <;> fin_cases j <;> first | rfl | exact absurd hij h.ne | exact absurd hij.symm h.ne)
    (by
      intro i j hij
      fin_cases i <;> fin_cases j <;> first | exact absurd hij (by decide) | skip
      show (decide (L a < L b) || (decide (L b = L a) && decide (b < a))) = false
      rw [decide_eq_false (not_lt.mpr (h.le_a b)), Bool.false_or]
      by_cases he : L b = L a
      · rw [decide_eq_false (not_lt.mpr (h.first_a b he)), Bool.and_false]
      · rw [decide_eq_false he, Bool.false_and])
    (by
      intro i p hp
      have hpa : p ≠ a := fun e => hp 0 e.symm
      fin_cases i
      · show (decide (L a < L p) || (decide (L p = L a) && decide (p < a))) = false
        rw [decide_eq_false (not_lt.mpr (h.le_a p)), Bool.false_or]
        by_cases he : L p = L a
        · rw [decide_eq_false (not_lt.mpr (h.first_a p he)), Bool.and_false]
        · rw [decide_eq_false he, Bool.false_and]
      · show (decide (L b < L p) || (decide (L p = L b) && decide (p < b))) = false
        rw [decide_eq_false (not_lt.mpr (h.le_b p hpa)), Bool.false_or]
        by_cases he : L p = L b
        · rw [decide_eq_false (not_lt.mpr (h.first_b p hpa he)), Bool.and_false]
        · rw [decide_eq_false he, Bool.false_and])
  exact ⟨hpre 0, hpre 1⟩

/-- The weight of expert `e`: the softmax of the two greatest entries, at the place they come from. -/
def weight (L : Fin 8 → EReal) (a b e : Fin 8) : EReal :=
  (if a = e then Ideal.div 1 (1 + Ideal.exp (L b - L a)) else 0) + (if b = e then Ideal.div (Ideal.exp (L b - L a)) (1 + Ideal.exp (L b - L a)) else 0)

/-- The router's scores of a token `x`: its product with every expert's row of the router matrix. -/
def scores (x : Fin 768 → EReal) (w : Fin 8 → Fin 768 → EReal) (e : Fin 8) : EReal := ∑ k, x k * w e k

/-- An expert's answer to a token `x`: the gated product of its two projections, projected back. -/
def expert (x : Fin 768 → EReal) (wg wu : Fin 1536 → Fin 768 → EReal) (wd : Fin 768 → Fin 1536 → EReal) (c : Fin 768) : EReal :=
  ∑ h, ((∑ k, x k * wg h k) * Ideal.logistic (∑ k, x k * wg h k) * ∑ k, x k * wu h k) * wd c h

/-- A sum of products of finite extended reals is finite. -/
theorem scores_finite (x : Fin 768 → EReal) (w : Fin 8 → Fin 768 → EReal) (hx : ∀ k, ∃ r : ℝ, x k = r) (hw : ∀ e k, ∃ r : ℝ, w e k = r) (e : Fin 8) :
    ∃ r : ℝ, scores x w e = r := by
  choose f hf using hx
  choose g hg using hw
  have hsum : ∀ S : Finset (Fin 768), ((∑ k ∈ S, f k * g e k : ℝ) : EReal) = ∑ k ∈ S, ((f k * g e k : ℝ) : EReal) := by
    intro S
    induction S using Finset.induction_on with
    | empty => simp
    | insert _ _ hn ih => rw [Finset.sum_insert hn, Finset.sum_insert hn, EReal.coe_add, ih]
  refine ⟨∑ k, f k * g e k, ?_⟩
  unfold scores
  simp only [hf, hg, ← EReal.coe_mul]
  exact (hsum Finset.univ).symm

end Cert.Routing

end
-- ==== Proof.KernelRow.lean ====
/-
  The kernel's contribution read at an element: the expert's answer to the token times the expert's weight.
-/
module

public import proofs.«01_k».proof.Proof.Run
public import proofs.«01_k».proof.Proof.Top
public import Idealize.ShloMosaic.Lib.Pointwise

@[expose] public section

noncomputable section

namespace Cert.KernelIdeal.Hand

open Cert.KernelIdeal Cert.KernelIdeal.Gen Cert.Routing
open Idealize.ShloMosaic

variable (v0 : Vec Ideal S256x768 .f32) (v2 : Vec Ideal S8x768 .f32) (r : Fin 256)

/-- Row `r` of the token block has these scores. -/
abbrev rowScores : Fin 8 → EReal := scores (fun k => v0 (ix2 r k)) (fun e k => v2 (ix2 e k))

/-- A float minus infinity, read as an extended real. -/
theorem ofBits_bot : Ideal.ofBits .f32 0xFF800000#32 = (⊥ : EReal) := by
  simp [Ideal.ofBits, Ideal.ieee]

/-- The router's product at row `r`: that row's scores. -/
theorem pay5_at (e : Fin 8) : k0_pay5 v0 v2 (ix2 r e) = rowScores v0 v2 r e := by
  pointwise [k0_pay5, k0_pay4, scores]

/-- Two small numbers are the same 32-bit word only if they are the same. -/
theorem ofNat_eq (p q : Fin 8) : BitVec.ofNat 32 p.val = BitVec.ofNat 32 q.val ↔ p = q := by
  revert p q; decide +kernel

/-- A comparison of two such words selects by their equality. -/
theorem select_eq (p q : Fin 8) (x y : EReal) :
    Scalar.select (IntOp.cmpi .eq (BitVec.ofNat 32 p.val) (BitVec.ofNat 32 q.val)) x y = if p = q then x else y := by
  by_cases h : p = q
  · subst h; rw [if_pos rfl]; simp [Scalar.select, IntOp.cmpi]
  · rw [if_neg h]
    have h' : ¬BitVec.ofNat 32 p.val = BitVec.ofNat 32 q.val := fun e => h ((ofNat_eq p q).mp e)
    simp only [Scalar.select, IntOp.cmpi, beq_eq_false_iff_ne.mpr h']
    rfl

variable {a b : Fin 8}

section Weight

variable (h : IsTop (rowScores v0 v2 r) a b)
include h

/-- The row's maximum is its greatest score. -/
theorem pay6_at : k0_pay6 v0 v2 (ix2 r 0) = rowScores v0 v2 r a := by
  pointwise [k0_pay6]
  simp only [pay5_at, ofBits_bot]
  exact fold_max_eq _ a h.le_a

/-- The least index that attains it is the first place of the greatest score. -/
theorem pay7_at : k0_pay7 v0 v2 (ix2 r 0) = BitVec.ofNat 32 a.val := by
  pointwise [k0_pay7]
  simp only [pay5_at, pay6_at v0 v2 r h]
  exact fold_minsi_eq (fun j => rowScores v0 v2 r j = rowScores v0 v2 r a) a rfl h.first_a

/-- The masked scores: minus infinity at that place, the scores elsewhere. -/
theorem pay8_at (e : Fin 8) : k0_pay8 v0 v2 (ix2 r e) = if e = a then ⊥ else rowScores v0 v2 r e := by
  pointwise [k0_pay8]
  rw [pay7_at v0 v2 r h, pay5_at, show Named.named (F := Ideal) κ "mask" (φ := .f32) 0xF149F2CA#32 = (⊥ : EReal) from
    IdealRules.named_const.ideal_named_scalar _ _ _ _ rfl]
  exact select_eq e a _ _

/-- Their maximum is the second greatest score. -/
theorem pay9_at : k0_pay9 v0 v2 (ix2 r 0) = rowScores v0 v2 r b := by
  pointwise [k0_pay9]
  simp only [pay8_at v0 v2 r h, ofBits_bot]
  exact fold_max_masked _ a b h

/-- The greater weight, at the expert with the greatest score, zero at the others. -/
theorem pay12_at (i : grid0.Coords) (e : Fin 8) (he : (i 0).val = e.val) :
    k0_pay12 i v0 v2 (ix2 r 0) = if a = e then Ideal.div 1 (1 + Ideal.exp (rowScores v0 v2 r b - rowScores v0 v2 r a)) else 0 := by
  pointwise [k0_pay12, k0_pay10]
  rw [pay7_at v0 v2 r h, pay9_at v0 v2 r h, pay6_at v0 v2 r h, he]
  exact select_eq a e _ _

/-- The lesser weight. -/
theorem pay11_at : k0_pay11 v0 v2 (ix2 r 0)
    = Ideal.div (Ideal.exp (rowScores v0 v2 r b - rowScores v0 v2 r a)) (1 + Ideal.exp (rowScores v0 v2 r b - rowScores v0 v2 r a)) := by
  pointwise [k0_pay11, k0_pay10]
  rw [pay9_at v0 v2 r h, pay6_at v0 v2 r h]

/-- The comparison that places the lesser weight: the expert's number with the first place of the second greatest score. -/
theorem pay13_at (hb : rowScores v0 v2 r b ≠ ⊥) (i : grid0.Coords) (e : Fin 8) (he : (i 0).val = e.val) :
    k0_pay13 i v0 v2 (ix2 r 0) = IntOp.cmpi .eq (BitVec.ofNat 32 b.val) (BitVec.ofNat 32 e.val) := by
  pointwise [k0_pay13]
  simp only [pay8_at v0 v2 r h, pay9_at v0 v2 r h, he, masked_eq _ a b _ hb]
  rw [fold_minsi_eq (fun j => j ≠ a ∧ rowScores v0 v2 r j = rowScores v0 v2 r b) b ⟨h.ne, rfl⟩ fun j hj => h.first_b j hj.1 hj.2]

/-- A point's contribution at row `r` and column `c`: the expert's answer to the token times the expert's weight. -/
theorem contrib_at (hb : rowScores v0 v2 r b ≠ ⊥) (i : grid0.Coords) (e : Fin 8) (he : (i 0).val = e.val)
    (d4 d5 : Vec Ideal S1x1536x768 .f32) (d6 : Vec Ideal S1x768x1536 .f32) (c : Fin 768) :
    contrib i v0 v2 d4 d5 d6 (ix2 r c)
      = expert (fun k => v0 (ix2 r k)) (fun p k => d4 (ix3 0 p k)) (fun p k => d5 (ix3 0 p k)) (fun q p => d6 (ix3 0 q p)) c
        * weight (rowScores v0 v2 r) a b e := by
  unfold contrib
  pointwise [k0_pay1, k0_pay4, k0_pay14]
  rw [pay12_at v0 v2 r h i e he, pay11_at v0 v2 r h, pay13_at v0 v2 r h hb i e he, select_eq]
  rfl

end Weight

end Cert.KernelIdeal.Hand

end
-- ==== Proof.KernelBlocks.lean ====
/-
  The kernel's result read at an element: which elements of the arguments each window's block holds at a grid point, and
  the finished sum of the contributions as the experts' answers to the token, each times its weight, added in order.
-/
module

public import proofs.«01_k».proof.Proof.Value
public import proofs.«01_k».proof.Proof.KernelRow

@[expose] public section

set_option maxRecDepth 16384

noncomputable section

namespace Cert.KernelIdeal.Hand

open Cert.KernelIdeal Cert.KernelIdeal.Gen Cert.Routing
open Idealize.ShloMosaic Idealize.ShloMosaic.TcCoe Idealize.ShloMosaic.Tactic
open Idealize.SL Idealize.SL.Sem
open Idealize.ShloMosaic.Pipeline

variable (m : (ℓ : Loc nD τ sig) → Buf (Elt Ideal) ℓ) (c : Dev nD)

/-! ## Where each window's block lies at a point -/

theorem index0_0 : ∀ t : Fin cfg0.N, win0_0.index t (0 : Fin 2) = t.val % 8 := by decide +kernel
theorem index0_1 : ∀ t : Fin cfg0.N, win0_0.index t (1 : Fin 2) = 0 := by decide +kernel
theorem index1_0 : ∀ t : Fin cfg0.N, win0_1.index t (0 : Fin 2) = 0 := by decide +kernel
theorem index1_1 : ∀ t : Fin cfg0.N, win0_1.index t (1 : Fin 2) = 0 := by decide +kernel
theorem index2_0 : ∀ t : Fin cfg0.N, win0_2.index t (0 : Fin 3) = t.val / 8 := by decide +kernel
theorem index2_1 : ∀ t : Fin cfg0.N, win0_2.index t (1 : Fin 3) = 0 := by decide +kernel
theorem index2_2 : ∀ t : Fin cfg0.N, win0_2.index t (2 : Fin 3) = 0 := by decide +kernel
theorem index3_0 : ∀ t : Fin cfg0.N, win0_3.index t (0 : Fin 3) = t.val / 8 := by decide +kernel
theorem index3_1 : ∀ t : Fin cfg0.N, win0_3.index t (1 : Fin 3) = 0 := by decide +kernel
theorem index3_2 : ∀ t : Fin cfg0.N, win0_3.index t (2 : Fin 3) = 0 := by decide +kernel
theorem index4_0 : ∀ t : Fin cfg0.N, win0_4.index t (0 : Fin 3) = t.val / 8 := by decide +kernel
theorem index4_1 : ∀ t : Fin cfg0.N, win0_4.index t (1 : Fin 3) = 0 := by decide +kernel
theorem index4_2 : ∀ t : Fin cfg0.N, win0_4.index t (2 : Fin 3) = 0 := by decide +kernel

/-! ## The arguments, token by token -/

/-- A token of the first argument. -/
abbrev tok (n : Fin 2048) (k : Fin 768) : EReal := (m ((c : Thread nD τ).loc main_arg0) : FVec Ideal S1x2048x768 .f32) (ix3 0 n k)
/-- A row of the router's weights. -/
abbrev router (e : Fin 8) (k : Fin 768) : EReal := (m ((c : Thread nD τ).loc main_arg1) : FVec Ideal S8x768 .f32) (ix2 e k)
/-- Expert `e`'s gate weights. -/
abbrev gateW (e : Fin 8) (p : Fin 1536) (k : Fin 768) : EReal := (m ((c : Thread nD τ).loc main_arg2) : FVec Ideal S8x1536x768 .f32) (ix3 e p k)
/-- Expert `e`'s up weights. -/
abbrev upW (e : Fin 8) (p : Fin 1536) (k : Fin 768) : EReal := (m ((c : Thread nD τ).loc main_arg3) : FVec Ideal S8x1536x768 .f32) (ix3 e p k)
/-- Expert `e`'s down weights. -/
abbrev downW (e : Fin 8) (q : Fin 768) (p : Fin 1536) : EReal := (m ((c : Thread nD τ).loc main_arg4) : FVec Ideal S8x768x1536 .f32) (ix3 e q p)

/-- An array of one group of rows, recast without the unit axis, read at an element … -/
theorem drop_unit (x : FVec Ideal S1x2048x768 .f32) (n : Fin 2048) (k : Fin 768) :
    shapeCast S2048x768 x shapeCasts_S1x2048x768_S2048x768 (ix2 n k) = x (ix3 0 n k) := by
  pointwise []

/-- … and the other way. -/
theorem add_unit (x : FVec Ideal S2048x768 .f32) (n : Fin 2048) (k : Fin 768) :
    shapeCast S1x2048x768 x shapeCasts_S2048x768_S1x2048x768 (ix3 0 n k) = x (ix2 n k) := by
  pointwise []

/-- The array the first window stages: the first argument without its unit axis. -/
theorem V_main_v0 (n : Fin 2048) (k : Fin 768) : (V m c main_v0 : FVec Ideal S2048x768 .f32) (ix2 n k) = tok m c n k := by
  have : (V m c main_v0 : FVec Ideal S2048x768 .f32)
      = shapeCast S2048x768 (m ((c : Thread nD τ).loc main_arg0) : FVec Ideal S1x2048x768 .f32) shapeCasts_S1x2048x768_S2048x768 := by
    unfold V V0
    simp only [hostOps0, List.flatten_cons, List.flatten_nil, List.append_nil, StableHlo.after_cons, StableHlo.after_nil]
    rw [StableHlo.reshape_result]
    rfl
  rw [this]
  exact drop_unit _ n k

/-- The first window's block: the tokens of row block `t % 8`. -/
theorem iblk0_at (t : Fin cfg0.N) (r : Fin 256) (n : Fin 2048) (hn : n.val = 256 * (t.val % 8) + r.val) (k : Fin 768) :
    (iblk m c 0 t : FVec Ideal S256x768 .f32) (ix2 r k) = tok m c n k := by
  rw [← V_main_v0]
  refine congrArg (V m c main_v0 : FVec Ideal S2048x768 .f32) (?_ : ((cfg0.win 0).blk t).view.emb (ix2 r k) = ix2 n k)
  funext a
  apply Fin.ext
  blk_simp
  revert a
  refine Fin.forall_fin_two.mpr ⟨?_, ?_⟩
  · show win0_0.index t (0 : Fin 2) * 256 + r.val = n.val
    rw [index0_0]; omega
  · show win0_0.index t (1 : Fin 2) * 768 + k.val = k.val
    rw [index0_1]; omega

/-- The second window's block: the router's weights. -/
theorem iblk1_at (t : Fin cfg0.N) (e : Fin 8) (k : Fin 768) : (iblk m c 1 t : FVec Ideal S8x768 .f32) (ix2 e k) = router m c e k := by
  refine Eq.trans (congrArg (V m c main_arg1 : FVec Ideal S8x768 .f32) (?_ : ((cfg0.win 1).blk t).view.emb (ix2 e k) = ix2 e k))
    (congrFun (V_main_arg1 m c) (ix2 e k))
  funext a
  apply Fin.ext
  blk_simp
  revert a
  refine Fin.forall_fin_two.mpr ⟨?_, ?_⟩
  · show win0_1.index t (0 : Fin 2) * 8 + e.val = e.val
    rw [index1_0]; omega
  · show win0_1.index t (1 : Fin 2) * 768 + k.val = k.val
    rw [index1_1]; omega

/-- The third window's block: the gate weights of expert `t / 8`. -/
theorem iblk2_at (t : Fin cfg0.N) (e : Fin 8) (he : e.val = t.val / 8) (p : Fin 1536) (k : Fin 768) :
    (iblk m c 2 t : FVec Ideal S1x1536x768 .f32) (ix3 0 p k) = gateW m c e p k := by
  refine Eq.trans (congrArg (V m c main_arg2 : FVec Ideal S8x1536x768 .f32) (?_ : ((cfg0.win 2).blk t).view.emb (ix3 0 p k) = ix3 e p k))
    (congrFun (V_main_arg2 m c) (ix3 e p k))
  funext a
  apply Fin.ext
  blk_simp
  revert a
  refine Fin.forall_fin_succ.mpr ⟨?_, Fin.forall_fin_two.mpr ⟨?_, ?_⟩⟩
  · show win0_2.index t (0 : Fin 3) * 1 + 0 = e.val
    rw [index2_0]; omega
  · show win0_2.index t (1 : Fin 3) * 1536 + p.val = p.val
    rw [index2_1]; omega
  · show win0_2.index t (2 : Fin 3) * 768 + k.val = k.val
    rw [index2_2]; omega

/-- The fourth window's block: the up weights of expert `t / 8`. -/
theorem iblk3_at (t : Fin cfg0.N) (e : Fin 8) (he : e.val = t.val / 8) (p : Fin 1536) (k : Fin 768) :
    (iblk m c 3 t : FVec Ideal S1x1536x768 .f32) (ix3 0 p k) = upW m c e p k := by
  refine Eq.trans (congrArg (V m c main_arg3 : FVec Ideal S8x1536x768 .f32) (?_ : ((cfg0.win 3).blk t).view.emb (ix3 0 p k) = ix3 e p k))
    (congrFun (V_main_arg3 m c) (ix3 e p k))
  funext a
  apply Fin.ext
  blk_simp
  revert a
  refine Fin.forall_fin_succ.mpr ⟨?_, Fin.forall_fin_two.mpr ⟨?_, ?_⟩⟩
  · show win0_3.index t (0 : Fin 3) * 1 + 0 = e.val
    rw [index3_0]; omega
  · show win0_3.index t (1 : Fin 3) * 1536 + p.val = p.val
    rw [index3_1]; omega
  · show win0_3.index t (2 : Fin 3) * 768 + k.val = k.val
    rw [index3_2]; omega

/-- The fifth window's block: the down weights of expert `t / 8`. -/
theorem iblk4_at (t : Fin cfg0.N) (e : Fin 8) (he : e.val = t.val / 8) (q : Fin 768) (p : Fin 1536) :
    (iblk m c 4 t : FVec Ideal S1x768x1536 .f32) (ix3 0 q p) = downW m c e q p := by
  refine Eq.trans (congrArg (V m c main_arg4 : FVec Ideal S8x768x1536 .f32) (?_ : ((cfg0.win 4).blk t).view.emb (ix3 0 q p) = ix3 e q p))
    (congrFun (V_main_arg4 m c) (ix3 e q p))
  funext a
  apply Fin.ext
  blk_simp
  revert a
  refine Fin.forall_fin_succ.mpr ⟨?_, Fin.forall_fin_two.mpr ⟨?_, ?_⟩⟩
  · show win0_4.index t (0 : Fin 3) * 1 + 0 = e.val
    rw [index4_0]; omega
  · show win0_4.index t (1 : Fin 3) * 768 + q.val = q.val
    rw [index4_1]; omega
  · show win0_4.index t (2 : Fin 3) * 1536 + p.val = p.val
    rw [index4_2]; omega

/-! ## The finished sum at an element -/

/-- A token's router scores. -/
abbrev tokScores (n : Fin 2048) : Fin 8 → EReal := scores (tok m c n) (router m c)

/-- One expert's share of the result at token `n` and column `q`: its answer times its weight. -/
def term (n : Fin 2048) (a b : Fin 8) (q : Fin 768) (e : Fin 8) : EReal :=
  expert (tok m c n) (gateW m c e) (upW m c e) (downW m c e) q * weight (tokScores m c n) a b e

section Token
variable (n : Fin 2048) {a b : Fin 8} (h : IsTop (tokScores m c n) a b) (hb : tokScores m c n b ≠ ⊥)
include h hb

/-- The contribution of expert `e`'s point at the token's row block, read at the token's row: the expert's share. -/
theorem conN_at (e : Fin 8) (r : Fin 256) (hr : r.val = n.val % 256) (q : Fin 768) :
    conN m c (8 * e.val + n.val / 256) (ix2 r q) = term m c n a b q e := by
  have hn := n.isLt
  have he' := e.isLt
  have hN : 8 * e.val + n.val / 256 < cfg0.N := Nat.lt_of_lt_of_eq (by omega) N_0.symm
  rw [show conN m c (8 * e.val + n.val / 256) = conAt m c ⟨8 * e.val + n.val / 256, hN⟩ from conN_val m c ⟨_, hN⟩]
  generalize ht : (⟨8 * e.val + n.val / 256, hN⟩ : Fin cfg0.N) = t
  have tv : t.val = 8 * e.val + n.val / 256 := congrArg Fin.val ht.symm
  have x0 : ∀ k, (iblk m c 0 t : FVec Ideal S256x768 .f32) (ix2 r k) = tok m c n k := iblk0_at m c t r n (by omega)
  have hs : rowScores (iblk m c 0 t) (iblk m c 1 t) r = tokScores m c n := by
    funext j
    exact Finset.sum_congr rfl fun k _ => congrArg₂ (· * ·) (x0 k) (iblk1_at m c t j k)
  unfold conAt
  rw [contrib_at (iblk m c 0 t) (iblk m c 1 t) r (hs ▸ h) (hs ▸ hb) (grid0.coords t) e (by rw [coords_e]; omega), hs]
  unfold term
  rw [show (fun k => iblk m c 0 t (ix2 r k)) = tok m c n from funext x0,
    show (fun p k => iblk m c 2 t (ix3 0 p k)) = gateW m c e from funext fun p => funext (iblk2_at m c t e (by omega) p),
    show (fun p k => iblk m c 3 t (ix3 0 p k)) = upW m c e from funext fun p => funext (iblk3_at m c t e (by omega) p),
    show (fun p k => iblk m c 4 t (ix3 0 p k)) = downW m c e from funext fun p => funext (iblk4_at m c t e (by omega) p)]

/-- The kernel's result at token `n` and column `q`: every expert's share, added in order. -/
theorem result_at (q : Fin 768) :
    (shapeCast S1x2048x768 (result m c) shapeCasts_S2048x768_S1x2048x768 : FVec Ideal S1x2048x768 .f32) (ix3 0 n q)
      = ((((((term m c n a b q 0 + term m c n a b q 1) + term m c n a b q 2) + term m c n a b q 3) + term m c n a b q 4) + term m c n a b q 5) + term m c n a b q 6) + term m c n a b q 7 := by
  have hc := fun e => conN_at m c n h hb e ⟨n.val % 256, Nat.mod_lt _ (by decide)⟩ rfl q
  have step : ∀ (k : ℕ) (e : Fin 8) (he : e.val = k + 1) (z : EReal), acc m c (n.val / 256) k (ix2 ⟨n.val % 256, Nat.mod_lt _ (by decide)⟩ q) = z →
      acc m c (n.val / 256) (k + 1) (ix2 ⟨n.val % 256, Nat.mod_lt _ (by decide)⟩ q) = z + term m c n a b q e := fun k e he z hz => by
    have := hc e
    rw [he] at this
    exact congrArg₂ (· + ·) hz this
  have h0 : acc m c (n.val / 256) 0 (ix2 ⟨n.val % 256, Nat.mod_lt _ (by decide)⟩ q) = term m c n a b q 0 := by
    have := hc 0
    rw [show 8 * (0 : Fin 8).val + n.val / 256 = n.val / 256 from Nat.zero_add _] at this
    exact this
  refine (add_unit (result m c) n q).trans ?_
  exact step 6 7 rfl _ (step 5 6 rfl _ (step 4 5 rfl _ (step 3 4 rfl _ (step 2 3 rfl _ (step 1 2 rfl _ (step 0 1 rfl _ h0))))))

end Token

end Cert.KernelIdeal.Hand

end
-- ==== Proof.RefRow.lean ====
/-
  The reference's result read at an element: the experts' answers to the token, each times its weight, added in order.
-/
module

public import proofs.«01_k».proof.Proof.Gen.ReferenceIdeal.Run
public import proofs.«01_k».proof.Proof.Top
public import Idealize.ShloMosaic.Lib.Pointwise

@[expose] public section

noncomputable section

namespace Cert.ReferenceIdeal.Hand

open Cert.ReferenceIdeal Cert.ReferenceIdeal.Gen Cert.ReferenceIdeal.Value Cert.Routing
open Idealize.ShloMosaic Idealize.SL.Sem

/-- The pattern of a float minus infinity. -/
theorem ofBits_bot : Ideal.ofBits .f32 0xFF800000#32 = (⊥ : EReal) := by
  simp [Ideal.ofBits, Ideal.ieee]

/-- A slice of the row's first two entries, read at one of them. -/
theorem slice_row {α : Type} (f : S1x2048x8.Idx → α) (t : Fin 2048) (e : Fin 2) :
    extractStridedSlice S1x2048x2 (fun _ => 0) f sliceFits_S1x2048x8_S1x2048x2 (ix3 0 t e) = f (ix3 0 t (e.castLE (by decide))) := by
  pointwise []
  rfl

/-- Changing an index of a row at its last axis. -/
theorem along_row (t : Fin 2048) (e k : Fin 8) : (ix3 0 t e : S1x2048x8.Idx).along (2 : Fin 3) k = ix3 0 t k := by
  funext q
  unfold Shape.Idx.along
  fin_cases q <;> rfl

/-- The sort of the row's entries with a second array, read at an entry. -/
theorem sort_row {β : Type} (x : FVec Ideal S1x2048x8 .f32) (y : S1x2048x8.Idx → β) (t : Fin 2048) (e : Fin 8) :
    (Host.sort2 S1x2048x8 2 (fun l r => FloatOps.cmpfTotal .gt l.1 r.1) x y).1 (ix3 0 t e)
        = x (ix3 0 t (sortedFrom (fun k k' : Fin 8 => decide (x (ix3 0 t k') < x (ix3 0 t k))) e))
      ∧ (Host.sort2 S1x2048x8 2 (fun l r => FloatOps.cmpfTotal .gt l.1 r.1) x y).2 (ix3 0 t e)
        = y (ix3 0 t (sortedFrom (fun k k' : Fin 8 => decide (x (ix3 0 t k') < x (ix3 0 t k))) e)) := by
  have hrel : (fun k k' : Fin 8 => (FloatOps.cmpfTotal (F := Ideal) (φ := .f32) .gt (x ((ix3 0 t e : S1x2048x8.Idx).along (2 : Fin 3) k))
        (x ((ix3 0 t e : S1x2048x8.Idx).along (2 : Fin 3) k')) == 1#1))
      = fun k k' : Fin 8 => decide (x (ix3 0 t k') < x (ix3 0 t k)) := by
    funext k k'
    rw [along_row, along_row]
    show (BitVec.ofBool (decide (x (ix3 0 t k') < x (ix3 0 t k))) == 1#1) = _
    cases decide (x (ix3 0 t k') < x (ix3 0 t k)) <;> rfl
  rw [← hrel, ← along_row t e (sortedFrom _ e)]
  unfold Host.sort2
  rw [dif_pos (show 2 < S1x2048x8.rank by decide)]
  exact ⟨rfl, rfl⟩

/-- The places of a row's entries, as 32-bit words. -/
def places : IVec S1x2048x8 32 := fun i => if hd : 2 < S1x2048x8.rank then iotaInDim S1x2048x8 32 ⟨2, hd⟩ i else 0#32

/-- The top two of a row and their places: the first place of the greatest entry and of the next. -/
theorem topK_row (x : FVec Ideal S1x2048x8 .f32) (t : Fin 2048) (a b : Fin 8) (h : IsTop (fun e => x (ix3 0 t e)) a b) :
    ((Host.topK S1x2048x2 2 (FloatOps.cmpfTotal .gt) x sliceFits_S1x2048x8_S1x2048x2).1 (ix3 0 t 0) = x (ix3 0 t a)
      ∧ (Host.topK S1x2048x2 2 (FloatOps.cmpfTotal .gt) x sliceFits_S1x2048x8_S1x2048x2).1 (ix3 0 t 1) = x (ix3 0 t b))
    ∧ (Host.topK S1x2048x2 2 (FloatOps.cmpfTotal .gt) x sliceFits_S1x2048x8_S1x2048x2).2 (ix3 0 t 0) = BitVec.ofNat 32 a.val
      ∧ (Host.topK S1x2048x2 2 (FloatOps.cmpfTotal .gt) x sliceFits_S1x2048x8_S1x2048x2).2 (ix3 0 t 1) = BitVec.ofNat 32 b.val := by
  obtain ⟨h0, h1⟩ := sorted_top _ a b h
  unfold Host.topK
  refine ⟨⟨?_, ?_⟩, ?_, ?_⟩
  · exact (slice_row _ t 0).trans (((sort_row x places t 0).1).trans (congrArg (fun k => x (ix3 0 t k)) h0))
  · exact (slice_row _ t 1).trans (((sort_row x places t 1).1).trans (congrArg (fun k => x (ix3 0 t k)) h1))
  · exact (slice_row _ t 0).trans (((sort_row x places t 0).2).trans (congrArg (fun k => places (ix3 0 t k)) h0))
  · exact (slice_row _ t 1).trans (((sort_row x places t 1).2).trans (congrArg (fun k => places (ix3 0 t k)) h1))

variable (V : Valuation τ sig (Elt Ideal)) (t : Fin 2048)

/-- The arguments, each as an array of extended reals. -/
abbrev tok (t : Fin 2048) (k : Fin 768) : EReal := (V (Proc.devRef .tc main_arg0) : FVec Ideal S1x2048x768 .f32) (ix3 0 t k)
abbrev router (e : Fin 8) (k : Fin 768) : EReal := (V (Proc.devRef .tc main_arg1) : FVec Ideal S8x768 .f32) (ix2 e k)
abbrev gateW (e : Fin 8) (p : Fin 1536) (k : Fin 768) : EReal := (V (Proc.devRef .tc main_arg2) : FVec Ideal S8x1536x768 .f32) (ix3 e p k)
abbrev upW (e : Fin 8) (p : Fin 1536) (k : Fin 768) : EReal := (V (Proc.devRef .tc main_arg3) : FVec Ideal S8x1536x768 .f32) (ix3 e p k)
abbrev downW (e : Fin 8) (q : Fin 768) (p : Fin 1536) : EReal := (V (Proc.devRef .tc main_arg4) : FVec Ideal S8x768x1536 .f32) (ix3 e q p)

/-- Token `t`'s router scores. -/
abbrev tokScores : Fin 8 → EReal := scores (tok V t) (router V)

/-- The router's product, read at a token and an expert. -/
theorem v0_at (e : Fin 8) : (res_main_v0 V : FVec Ideal S1x2048x8 .f32) (ix3 0 t e) = tokScores V t e := by
  pointwise [res_main_v0, scores]

section Weight

variable {a b : Fin 8} (h : IsTop (tokScores V t) a b)
include h

/-- The two greatest scores and their places. -/
theorem top_at :
    ((res_main_values V : FVec Ideal S1x2048x2 .f32) (ix3 0 t 0) = tokScores V t a
      ∧ (res_main_values V : FVec Ideal S1x2048x2 .f32) (ix3 0 t 1) = tokScores V t b)
    ∧ (res_main_indices V : IVec S1x2048x2 32) (ix3 0 t 0) = BitVec.ofNat 32 a.val
      ∧ (res_main_indices V : IVec S1x2048x2 32) (ix3 0 t 1) = BitVec.ofNat 32 b.val := by
  have hx : (fun e => (res_main_v0 V : FVec Ideal S1x2048x8 .f32) (ix3 0 t e)) = tokScores V t := funext (v0_at V t)
  have := topK_row (res_main_v0 V) t a b (hx ▸ h)
  rw [v0_at, v0_at] at this
  exact this

/-- One of a token's two top scores. -/
abbrev best (k : Fin 2) : EReal := (res_main_values V : FVec Ideal S1x2048x2 .f32) (ix3 0 t k)

/-- The expert one of a token's top scores belongs to. -/
abbrev place (k : Fin 2) : BitVec 32 := (res_main_indices V : IVec S1x2048x2 32) (ix3 0 t k)

/-- The exponential of one of a token's top scores, less the greatest. -/
abbrev power (k : Fin 2) : EReal := (res_main_v7 V : FVec Ideal S1x2048x2 .f32) (ix3 0 t k)

/-- One of a token's two softmax weights. -/
abbrev share (k : Fin 2) : EReal := (res_main_v11 V : FVec Ideal S1x2048x2 .f32) (ix3 0 t k)

/-- Whether a word is another, as a number. -/
abbrev hit (v w : BitVec 32) : EReal := FloatOps.uitofp (F := Ideal) .f32 (IntOp.cmpi .eq v w)

omit h in
/-- Of an array of pairs, each entry's exponential less the greatest of its pair. -/
theorem exp_pair (x : FVec Ideal S1x2048x2 .f32) (e : Fin 2) :
    Host.exp (subf x (broadcastInDim S1x2048x2 ![0, 1, 2] bcast_S1x2048x1_S1x2048x2_0_1_2 (broadcastInDim S1x2048x1 ![0, 1] bcast_S1x2048_S1x2048x1_0_1 (maximumf (broadcastInDim S1x2048 ![] bcast_S_S1x2048 (constant S_ .f32 0xFF800000#32)) (Host.reduce FloatOps.maximumf x (constant S_ .f32 0xFF800000#32) reducesTo_S1x2048x2_S1x2048_d2 h_S_))))) (ix3 0 t e)
      = Ideal.exp (x (ix3 0 t e) - max (x (ix3 0 t 0)) (x (ix3 0 t 1))) := by
  pointwise
  rw [ofBits_bot]
  refine congrArg (fun z => Ideal.exp (x (ix3 0 t e) - z)) ?_
  refine le_antisymm (max_le bot_le ((Finset.fold_max_le _).mpr ⟨bot_le, fun k _ => ?_⟩))
    (max_le (le_max_of_le_right ((Finset.le_fold_max _).mpr (Or.inr ⟨0, Finset.mem_univ _, le_rfl⟩)))
      (le_max_of_le_right ((Finset.le_fold_max _).mpr (Or.inr ⟨1, Finset.mem_univ _, le_rfl⟩))))
  revert k
  exact Fin.forall_fin_two.mpr ⟨fun _ => le_max_left _ _, fun _ => le_max_right _ _⟩

omit h in
/-- Of an array of pairs, each entry over the sum of its pair. -/
theorem div_pair (x : FVec Ideal S1x2048x2 .f32) (e : Fin 2) :
    Host.divf x (broadcastInDim S1x2048x2 ![0, 1, 2] bcast_S1x2048x1_S1x2048x2_0_1_2 (broadcastInDim S1x2048x1 ![0, 1] bcast_S1x2048_S1x2048x1_0_1 (Host.reduceAdd x (constant S_ .f32 0x00000000#32) reducesTo_S1x2048x2_S1x2048_d2 h_S_))) (ix3 0 t e)
      = Ideal.div (x (ix3 0 t e)) (x (ix3 0 t 0) + x (ix3 0 t 1)) := by
  pointwise
  exact congrArg (Ideal.div _) (Fin.sum_univ_two _)

/-- The top scores' exponentials, each score less the greatest. -/
theorem v7_at (e : Fin 2) : power V t e = Ideal.exp (best V t e - tokScores V t a) := by
  obtain ⟨⟨h0, h1⟩, -⟩ := top_at V t h
  have key : power V t e = Ideal.exp (best V t e - max (best V t 0) (best V t 1)) := exp_pair t (res_main_values V) e
  rw [key, show best V t 0 = _ from h0, show best V t 1 = _ from h1, max_eq_left (h.le_a b)]

/-- The two softmax weights: of a finite greatest score, its own exponential is 1. -/
theorem v11_at (hf : ∃ q : ℝ, tokScores V t a = q) :
    share V t 0 = Ideal.div 1 (1 + Ideal.exp (tokScores V t b - tokScores V t a))
      ∧ share V t 1
        = Ideal.div (Ideal.exp (tokScores V t b - tokScores V t a)) (1 + Ideal.exp (tokScores V t b - tokScores V t a)) := by
  obtain ⟨q, hq⟩ := hf
  obtain ⟨⟨h0, h1⟩, -⟩ := top_at V t h
  have e0 : power V t 0 = (1 : EReal) := by
    rw [v7_at V t h, show best V t 0 = _ from h0, hq, ← EReal.coe_sub, sub_self, Ideal.exp_coe, Real.exp_zero, EReal.coe_one]
  have e1 : power V t 1 = Ideal.exp (tokScores V t b - tokScores V t a) := by
    rw [v7_at V t h, show best V t 1 = _ from h1]
  have key : ∀ e : Fin 2, share V t e
      = Ideal.div (power V t e) (1 + Ideal.exp (tokScores V t b - tokScores V t a)) := by
    intro e
    have := div_pair t (res_main_v7 V) e
    rw [show res_main_v7 V (ix3 0 t 0) = _ from e0, show res_main_v7 V (ix3 0 t 1) = _ from e1] at this
    exact this
  exact ⟨(key 0).trans (by rw [e0]), (key 1).trans (by rw [e1])⟩

/-- An expert's weight in the reference: the softmax weights where the places are the expert's. -/
theorem weight_at (hf : ∃ q : ℝ, tokScores V t a = q) (e : Fin 8) (w : BitVec 32) (hw : w = BitVec.ofNat 32 e.val) :
    (∑ k : Fin 2, share V t k
        * hit (place V t k) w)
      = weight (tokScores V t) a b e := by
  obtain ⟨-, i0, i1⟩ := top_at V t h
  obtain ⟨p0, p1⟩ := v11_at V t h hf
  have conv : ∀ (p : Fin 8) (z : EReal), z * hit (BitVec.ofNat 32 p.val) (BitVec.ofNat 32 e.val)
      = if p = e then z else 0 := by
    intro p z
    by_cases hp : p = e
    · subst hp
      rw [if_pos rfl, show hit (BitVec.ofNat 32 p.val) (BitVec.ofNat 32 p.val) = (1 : EReal) from ?_, mul_one]
      show (((BitVec.ofBool (BitVec.ofNat 32 p.val == BitVec.ofNat 32 p.val)).toNat : ℝ) : EReal) = 1
      simp
    · rw [if_neg hp, show hit (BitVec.ofNat 32 p.val) (BitVec.ofNat 32 e.val) = (0 : EReal) from ?_, mul_zero]
      show (((BitVec.ofBool (BitVec.ofNat 32 p.val == BitVec.ofNat 32 e.val)).toNat : ℝ) : EReal) = 0
      have : (BitVec.ofNat 32 p.val == BitVec.ofNat 32 e.val) = false := by clear hw; revert p e; decide +kernel
      rw [this]
      simp
  rw [Fin.sum_univ_two, show place V t 0 = BitVec.ofNat 32 a.val from i0, show place V t 1 = BitVec.ofNat 32 b.val from i1, p0, p1, hw, conv, conv]
  rfl

/-- One expert's share of the result at token `t` and column `c`: its answer times its weight. -/
def term (a b : Fin 8) (c : Fin 768) (e : Fin 8) : EReal :=
  expert (tok V t) (gateW V e) (upW V e) (downW V e) c * weight (tokScores V t) a b e

/-- The reference's result at token `t` and column `c`: every expert's answer times its weight, added in order. -/
theorem v172_at (hf : ∃ q : ℝ, tokScores V t a = q) (c : Fin 768) :
    (res_main_v172 V : FVec Ideal S1x2048x768 .f32) (ix3 0 t c)
      = ((((((term V t a b c 0 + term V t a b c 1) + term V t a b c 2) + term V t a b c 3) + term V t a b c 4) + term V t a b c 5) + term V t a b c 6) + term V t a b c 7 := by
  pointwise [res_main_v172, res_main_v92, res_main_v20, res_main_v40, res_main_v60, res_main_v80, res_main_v100, res_main_v120, res_main_v140, res_main_v160]
  rw [weight_at V t h hf 0 0#32 rfl, weight_at V t h hf 1 1#32 rfl, weight_at V t h hf 2 2#32 rfl, weight_at V t h hf 3 3#32 rfl,
    weight_at V t h hf 4 4#32 rfl, weight_at V t h hf 5 5#32 rfl, weight_at V t h hf 6 6#32 rfl, weight_at V t h hf 7 7#32 rfl]
  rfl

end Weight

end Cert.ReferenceIdeal.Hand

end
-- ==== Proof.Finite.lean ====
/-
  What the precondition says: every element of the tokens and of the router's weights is a real number.
-/
module

public import proofs.«01_k».proof.Proof.Gen.Pre_finite
public import Idealize.ShloMosaic.Lib.ReduceAll
public import Idealize.ShloMosaic.PureOps.Ideal

@[expose] public section

noncomputable section

namespace Cert.Pre_finite.Hand

open Cert.Pre_finite Cert.Pre_finite.Facts
open Idealize.ShloMosaic

/-- A number whose absolute value is less than the pattern of infinity is real. -/
theorem real_of_lt (x : EReal) (h : (FloatOps.cmpf (F := Ideal) (φ := .f32) .olt (FloatOps.hostAbsf (F := Ideal) (φ := .f32) x) (Ideal.ofBits .f32 0x7F800000#32)) = 1#1) :
    ∃ q : ℝ, x = q := by
  have h' : decide (max x (-x) < Ideal.ofBits .f32 0x7F800000#32) = true := by
    cases hd : decide (max x (-x) < Ideal.ofBits .f32 0x7F800000#32) with
    | true => rfl
    | false =>
      have hz : BitVec.ofBool (decide (max x (-x) < Ideal.ofBits .f32 0x7F800000#32)) = 1#1 := h
      rw [hd] at hz
      exact absurd hz (by decide)
  rw [show Ideal.ofBits .f32 0x7F800000#32 = (⊤ : EReal) by simp [Ideal.ofBits, Ideal.ieee], decide_eq_true_eq, max_lt_iff] at h'
  refine ⟨x.toReal, (EReal.coe_toReal h'.1.ne fun hx => ?_).symm⟩
  rw [hx] at h'
  exact absurd h'.2 (by simp)

/-- Under the precondition every element of the first two arguments is real. -/
theorem real_args [Facts] (x0 : FVec Ideal S1x2048x768 .f32) (x1 : FVec Ideal S8x768 .f32) (x2 x3 : FVec Ideal S8x1536x768 .f32)
    (x4 : FVec Ideal S8x768x1536 .f32) (h : fn (F := Ideal) x0 x1 x2 x3 x4 = fun _ => 1#1) :
    (∀ i, ∃ q : ℝ, x0 i = q) ∧ ∀ i, ∃ q : ℝ, x1 i = q := by
  have h0 := congrFun h (fun a => a.elim0)
  unfold fn at h0
  obtain ⟨e0, e1⟩ := IntOp.andi_eq_one.1 h0
  haveI : Subsingleton S_.Idx := ⟨fun i j => funext fun a => a.elim0⟩
  exact ⟨fun i => real_of_lt _ (Host.reduce_andi_all _ _ _ _ _ e0 i), fun i => real_of_lt _ (Host.reduce_andi_all _ _ _ _ _ e1 i)⟩

end Cert.Pre_finite.Hand

end
-- ==== Proof.Algebraic.lean ====
/-
  The value claim: on finite tokens and router weights the idealized kernel and the reference leave the same result.
-/
module

public import proofs.«01_k».proof.Defs
public import proofs.«01_k».proof.Proof.KernelBlocks
public import proofs.«01_k».proof.Proof.RefRow
public import proofs.«01_k».proof.Proof.Finite

@[expose] public section

noncomputable section

namespace Cert.Claims

open Idealize.ShloMosaic Idealize.ShloMosaic.TcCoe Idealize.SL.Sem

/-- The two results agree at every token and column: both are the experts' answers to the token, each times its weight,
    added in order. -/
theorem results_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hpre : Cert.Pre_KernelIdeal_finite m)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4)) :
    Cert.ReferenceIdeal.Value.res_main_v172 V
      = shapeCast Cert.KernelIdeal.S1x2048x768 (Cert.KernelIdeal.Hand.result m c) Cert.KernelIdeal.Gen.shapeCasts_S2048x768_S1x2048x768 := by
  obtain ⟨r0, r1⟩ := Cert.Pre_finite.Hand.real_args _ _ _ _ _ (hpre c)
  have key : ∀ (n : Fin 2048) (q : Fin 768), (Cert.ReferenceIdeal.Value.res_main_v172 V : FVec Ideal Cert.ReferenceIdeal.S1x2048x768 .f32) (ix3 0 n q)
      = (shapeCast Cert.KernelIdeal.S1x2048x768 (Cert.KernelIdeal.Hand.result m c) Cert.KernelIdeal.Gen.shapeCasts_S2048x768_S1x2048x768 : FVec Ideal Cert.KernelIdeal.S1x2048x768 .f32) (ix3 0 n q) := by
    intro n q
    have hx : Cert.ReferenceIdeal.Hand.tok V n = Cert.KernelIdeal.Hand.tok m c n := funext fun k => congrFun h0 (ix3 0 n k)
    have hw : Cert.ReferenceIdeal.Hand.router V = Cert.KernelIdeal.Hand.router m c := funext fun e => funext fun k => congrFun h1 (ix2 e k)
    have hs : Cert.ReferenceIdeal.Hand.tokScores V n = Cert.KernelIdeal.Hand.tokScores m c n := congrArg₂ Cert.Routing.scores hx hw
    have hf : ∀ e, ∃ z : ℝ, Cert.KernelIdeal.Hand.tokScores m c n e = z :=
      Cert.Routing.scores_finite _ _ (fun k => r0 (ix3 0 n k)) (fun e k => r1 (ix2 e k))
    obtain ⟨a, b, hab⟩ := Cert.Routing.exists_top (Cert.KernelIdeal.Hand.tokScores m c n)
    have hb : Cert.KernelIdeal.Hand.tokScores m c n b ≠ ⊥ := by
      obtain ⟨z, hz⟩ := hf b
      rw [hz]
      exact EReal.coe_ne_bot z
    have ht : ∀ e, Cert.ReferenceIdeal.Hand.term V n a b q e = Cert.KernelIdeal.Hand.term m c n a b q e := by
      intro e
      have hg : Cert.ReferenceIdeal.Hand.gateW V e = Cert.KernelIdeal.Hand.gateW m c e := funext fun p => funext fun k => congrFun h2 (ix3 e p k)
      have hu : Cert.ReferenceIdeal.Hand.upW V e = Cert.KernelIdeal.Hand.upW m c e := funext fun p => funext fun k => congrFun h3 (ix3 e p k)
      have hd : Cert.ReferenceIdeal.Hand.downW V e = Cert.KernelIdeal.Hand.downW m c e := funext fun p => funext fun k => congrFun h4 (ix3 e p k)
      unfold Cert.ReferenceIdeal.Hand.term Cert.KernelIdeal.Hand.term
      rw [hx, hg, hu, hd, hs]
    rw [Cert.ReferenceIdeal.Hand.v172_at V n (hs ▸ hab) (hs ▸ hf a) q, Cert.KernelIdeal.Hand.result_at m c n hab hb q]
    simp only [ht]
  funext i
  have hi : i = ix3 (0 : Fin 1) (i 1 : Fin 2048) (i 2 : Fin 768) := by
    funext k
    revert k
    exact Fin.forall_fin_succ.mpr ⟨Subsingleton.elim (α := Fin 1) _ _, Fin.forall_fin_two.mpr ⟨rfl, rfl⟩⟩
  rw [hi]
  exact key (i 1) (i 2)

/-- From memories that agree on the arguments, the tokens and the router's weights finite, both programs run to their end with
    the same result and their arguments unchanged. -/
theorem algebraic : Cert.algebraic_KernelIdeal_ReferenceIdeal_pre_finite := by
  intro m g m' g' hpre hagree
  refine ⟨fun c => shapeCast Cert.KernelIdeal.S1x2048x768 (Cert.KernelIdeal.Hand.result m c) Cert.KernelIdeal.Gen.shapeCasts_S2048x768_S1x2048x768, ?_, ?_⟩
  · exact (θ_run Cert.KernelIdeal.defs _ _).mono
      (fun r h c => ⟨Cert.KernelIdeal.Hand.result_of m c r.2 (h.1 c), Cert.KernelIdeal.Hand.args_of m c r.2 (h.1 c)⟩)
      (Cert.KernelIdeal.Hand.run_main (F := Ideal) m g)
  · refine (θ_run Cert.ReferenceIdeal.defs _ _).mono (fun r h c => ⟨(h c).1.trans ?_, (h c).2⟩)
      (Cert.ReferenceIdeal.Value.run (F := Ideal) m' g')
    obtain ⟨a0, a1, a2, a3, a4⟩ := hagree c
    exact results_eq m (StableHlo.launchContents m' c) c hpre a0 a1 a2 a3 a4

end Cert.Claims

end
-- ==== Proof.lean ====
/- The proof of the certificate's claims. -/
module

public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_finite

@[expose] public section

noncomputable section

namespace Cert.Proof

open Idealize.ShloMosaic Idealize.SL.Sem

/-- Every claim of the certificate, the programs' and the predicate's side conditions given. -/
theorem claim : Cert.Claim :=
  ⟨Cert.Kernel.Gen.facts, Cert.KernelIdeal.Gen.facts, Cert.ReferenceIdeal.Gen.facts, Cert.Pre_finite.Gen.facts,
    Cert.Claims.frame_kernel, Cert.Claims.frame_kernel_ideal, Cert.Claims.frame_kernel_ideal_finite, Cert.Claims.frame_reference,
    Cert.Claims.frame_reference_finite, Cert.Claims.named_mask, Cert.Claims.algebraic⟩

end Cert.Proof

end
